-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 2048]⟩ ⟨2, ![2048, 2048]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 2048]⟩ ⟨2, ![4096, 2048]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S1024x1024 : Shape := ⟨2, ![1024, 1024]⟩
abbrev S4 : Shape := ⟨1, ![4]⟩
abbrev S_ : Shape := ⟨0, ![]⟩
abbrev S512x1024 : Shape := ⟨2, ![512, 1024]⟩
abbrev S1 : Shape := ⟨1, ![1]⟩

abbrev nBuf : Space → Nat
  | .hbm => 3
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S2048x2048, .f32⟩
  | .local _ .vmem, ⟨0, _⟩ => ⟨S2048x1024, .f32⟩
  | .local _ .vmem, ⟨1, _⟩ => ⟨S1024x2048, .f32⟩
  | .local _ .vmem, ⟨2, _⟩ => ⟨S2048x2048, .f32⟩
  | .local _ .vmem, ⟨3, _⟩ => ⟨S2048x1024, .bf16⟩
  | .local _ .vmem, ⟨4, _⟩ => ⟨S1024x1024, .bf16⟩
  | .local _ .vmem, ⟨5, _⟩ => ⟨S2048x1024, .bf16⟩
  | .local _ .vmem, ⟨6, _⟩ => ⟨S1024x1024, .bf16⟩
  | .local _ .vmem, ⟨7, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v9 : BitVec 32 := Scalar.muli v2 c2_i32_5
  let v10 : BitVec 32 := Scalar.addi c0_i32 v9
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v11 : BitVec 32 := Scalar.muli v6 c1_i32_6
  let v12 : BitVec 32 := Scalar.addi v10 v11
  v12.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v13 : BitVec 32 := Scalar.muli v7 c2_i32_8
  let v14 : BitVec 32 := Scalar.addi c0_i32_9 v13
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v15 : BitVec 32 := Scalar.muli v5 c1_i32_10
  let v16 : BitVec 32 := Scalar.addi v14 v15
  v16.toNat
def k0_off1 (d0 : Dev nD) : Fin 2 → Nat :=
  let c0 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v17 : BitVec 32 := Scalar.muli v2 c1024_i32
  let v18 : Index := Scalar.indexCast v17
  ![0, v18.toNat]
def k0_dev3 (d0 : Dev nD) : Nat :=
  let c0_i32_15 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_14 : BitVec 32 := 2#32
  let v25 : BitVec 32 := Scalar.muli v2 c2_i32_14
  let v26 : BitVec 32 := Scalar.addi c0_i32_15 v25
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_16 : BitVec 32 := 1#32
  let v27 : BitVec 32 := Scalar.muli v6 c1_i32_16
  let v28 : BitVec 32 := Scalar.addi v26 v27
  v28.toNat
def k0_dev4 (d0 : Dev nD) : Nat :=
  let c0_i32_24 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_23 : BitVec 32 := 2#32
  let v35 : BitVec 32 := Scalar.muli v2 c2_i32_23
  let v36 : BitVec 32 := Scalar.addi c0_i32_24 v35
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_25 : BitVec 32 := 1#32
  let v37 : BitVec 32 := Scalar.muli v6 c1_i32_25
  let v38 : BitVec 32 := Scalar.addi v36 v37
  v38.toNat
def k0_dev5 (d0 : Dev nD) : Nat :=
  let c0_i32_36 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_35 : BitVec 32 := 2#32
  let v51 : BitVec 32 := Scalar.muli v2 c2_i32_35
  let v52 : BitVec 32 := Scalar.addi c0_i32_36 v51
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_37 : BitVec 32 := 1#32
  let v53 : BitVec 32 := Scalar.muli v6 c1_i32_37
  let v54 : BitVec 32 := Scalar.addi v52 v53
  v54.toNat
def k0_dev6 (d0 : Dev nD) : Nat :=
  let c0_i32_47 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_46 : BitVec 32 := 2#32
  let v67 : BitVec 32 := Scalar.muli v2 c2_i32_46
  let v68 : BitVec 32 := Scalar.addi c0_i32_47 v67
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_48 : BitVec 32 := 1#32
  let v69 : BitVec 32 := Scalar.muli v6 c1_i32_48
  let v70 : BitVec 32 := Scalar.addi v68 v69
  v70.toNat
def k0_dev7 (d0 : Dev nD) : Nat :=
  let c0_i32_58 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_57 : BitVec 32 := 2#32
  let v83 : BitVec 32 := Scalar.muli v2 c2_i32_57
  let v84 : BitVec 32 := Scalar.addi c0_i32_58 v83
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_59 : BitVec 32 := 1#32
  let v85 : BitVec 32 := Scalar.muli v6 c1_i32_59
  let v86 : BitVec 32 := Scalar.addi v84 v85
  v86.toNat
def k0_dev8 (d0 : Dev nD) : Nat :=
  let c0_i32_73 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_72 : BitVec 32 := 2#32
  let v103 : BitVec 32 := Scalar.muli v7 c2_i32_72
  let v104 : BitVec 32 := Scalar.addi c0_i32_73 v103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_74 : BitVec 32 := 1#32
  let v105 : BitVec 32 := Scalar.muli v5 c1_i32_74
  let v106 : BitVec 32 := Scalar.addi v104 v105
  v106.toNat
def k0_off2 (d0 : Dev nD) : Fin 2 → Nat :=
  let c0_87 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_75 : BitVec 32 := 1024#32
  let v107 : BitVec 32 := Scalar.muli v2 c1024_i32_75
  let v118 : Index := Scalar.indexCast v107
  ![0, v118.toNat]
def k0_off3 (d0 : Dev nD) : Fin 2 → Nat :=
  let c0_97 : Index := 0#32
  let c1_i32_76 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v108 : BitVec 32 := Scalar.subi c1_i32_76 v2
  let c1024_i32_77 : BitVec 32 := 1024#32
  let v109 : BitVec 32 := Scalar.muli v108 c1024_i32_77
  let v131 : Index := Scalar.indexCast v109
  ![0, v131.toNat]
def k0_off4 (d0 : Dev nD) : Fin 2 → Nat :=
  let c512_113 : Index := 512#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_75 : BitVec 32 := 1024#32
  let v107 : BitVec 32 := Scalar.muli v2 c1024_i32_75
  let v148 : Index := Scalar.indexCast v107
  ![512, v148.toNat]
def k0_off5 (d0 : Dev nD) : Fin 2 → Nat :=
  let c512_120 : Index := 512#32
  let c1_i32_76 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v108 : BitVec 32 := Scalar.subi c1_i32_76 v2
  let c1024_i32_77 : BitVec 32 := 1024#32
  let v109 : BitVec 32 := Scalar.muli v108 c1024_i32_77
  let v157 : Index := Scalar.indexCast v109
  ![512, v157.toNat]
def k0_off6 (d0 : Dev nD) : Fin 2 → Nat :=
  let c1024_136 : Index := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_75 : BitVec 32 := 1024#32
  let v107 : BitVec 32 := Scalar.muli v2 c1024_i32_75
  let v174 : Index := Scalar.indexCast v107
  ![1024, v174.toNat]
def k0_off7 (d0 : Dev nD) : Fin 2 → Nat :=
  let c1024_143 : Index := 1024#32
  let c1_i32_76 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v108 : BitVec 32 := Scalar.subi c1_i32_76 v2
  let c1024_i32_77 : BitVec 32 := 1024#32
  let v109 : BitVec 32 := Scalar.muli v108 c1024_i32_77
  let v183 : Index := Scalar.indexCast v109
  ![1024, v183.toNat]
def k0_off8 (d0 : Dev nD) : Fin 2 → Nat :=
  let c1536_159 : Index := 1536#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32_75 : BitVec 32 := 1024#32
  let v107 : BitVec 32 := Scalar.muli v2 c1024_i32_75
  let v200 : Index := Scalar.indexCast v107
  ![1536, v200.toNat]
def k0_off9 (d0 : Dev nD) : Fin 2 → Nat :=
  let c1536_166 : Index := 1536#32
  let c1_i32_76 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v108 : BitVec 32 := Scalar.subi c1_i32_76 v2
  let c1024_i32_77 : BitVec 32 := 1024#32
  let v109 : BitVec 32 := Scalar.muli v108 c1024_i32_77
  let v209 : Index := Scalar.indexCast v109
  ![1536, v209.toNat]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x2048 : Shape := ⟨2, ![4096, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Protocol.lean ====
/-
The message protocol of the two-by-two matrix product, as the rounds library reads it.

Device (x, y) of the mesh is number 2x + y. Its row peer is (x, 1 - y), its column peer (1 - x, y). Each device sends its
block of A, in four row chunks, and one half of the columns of its block of B to its row peer; the half of B it gets it
passes on to its column peer. Before any of that both peers are told, on the barrier semaphore, that the buffers they will
write into are free.

This module names the thirteen semaphore cells of a device, says for each what its one round of payments brings, and lists
the tables of that schedule.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: one copy of the rounds algebra for the staging pipeline, one for the device protocol -/

/-- The rounds algebra of the device protocol, its duties named by a Boolean. -/
abbrev UP : Type := URounds (GSem nD τ sig) Bool
/-- Both copies. -/
abbrev UU : Type := UR sig nD τ × UP

local notation "𝕄" => MT nD τ sig Unit (Elt F) ℕ UU ℕ

/-- Where the pipeline's copy sits. -/
abbrev EP : Emb (UR sig nD τ) (MT nD τ sig Unit (Elt F) ℕ UU ℕ) := embL
/-- Where the protocol's copy sits. -/
abbrev ER : Emb UP (MT nD τ sig Unit (Elt F) ℕ UU ℕ) := embR

variable (m : (ℓ : Loc nD τ sig) → Buf (Elt F) ℓ) (ρ : Dev nD → PrngReg)

/-- The machine at launch: any memory, every counter at zero, any generator registers. -/
def start₀ : MemSt nD τ sig (Elt F) := ⟨m, fun _ => 0, ρ⟩

/-! ## The mesh -/

set_option backward.proofsInPublic true in
/-- The other device of the same mesh row. -/
def rowPeer (c : Dev nD) : Dev nD := ⟨(2 * (c.val / 2) + 1) - c.val % 2, by revert c; decide⟩
set_option backward.proofsInPublic true in
/-- The other device of the same mesh column. -/
def colPeer (c : Dev nD) : Dev nD := ⟨(c.val % 2 + 2) - 2 * (c.val / 2), by revert c; decide⟩

theorem rowPeer_rowPeer (c : Dev nD) : rowPeer (rowPeer c) = c := by revert c; decide
theorem colPeer_colPeer (c : Dev nD) : colPeer (colPeer c) = c := by revert c; decide

/-- Both peer maps undo themselves, so they are permutations of the devices. -/
def rowSwap : Dev nD ≃ Dev nD := ⟨rowPeer, rowPeer, rowPeer_rowPeer, rowPeer_rowPeer⟩
def colSwap : Dev nD ≃ Dev nD := ⟨colPeer, colPeer, colPeer_colPeer, colPeer_colPeer⟩

/-- The devices the kernel computes for its signals and copies are those two. -/
theorem dev1_eq (c : Dev nD) : (⟨k0_dev1 c, k0_dev1_lt c⟩ : Dev nD) = rowPeer c := Fin.ext (k0_dev1_eq c)
theorem dev2_eq (c : Dev nD) : (⟨k0_dev2 c, k0_dev2_lt c⟩ : Dev nD) = colPeer c := Fin.ext (k0_dev2_eq c)
theorem dev3_eq (c : Dev nD) : (⟨k0_dev3 c, k0_dev3_lt c⟩ : Dev nD) = rowPeer c := Fin.ext (k0_dev3_eq c)
theorem dev4_eq (c : Dev nD) : (⟨k0_dev4 c, k0_dev4_lt c⟩ : Dev nD) = rowPeer c := Fin.ext (k0_dev4_eq c)
theorem dev5_eq (c : Dev nD) : (⟨k0_dev5 c, k0_dev5_lt c⟩ : Dev nD) = rowPeer c := Fin.ext (k0_dev5_eq c)
theorem dev6_eq (c : Dev nD) : (⟨k0_dev6 c, k0_dev6_lt c⟩ : Dev nD) = rowPeer c := Fin.ext (k0_dev6_eq c)
theorem dev7_eq (c : Dev nD) : (⟨k0_dev7 c, k0_dev7_lt c⟩ : Dev nD) = rowPeer c := Fin.ext (k0_dev7_eq c)
theorem dev8_eq (c : Dev nD) : (⟨k0_dev8 c, k0_dev8_lt c⟩ : Dev nD) = colPeer c := Fin.ext (k0_dev8_eq c)

/-! ## Buffers and their row chunks -/

/-- The staged blocks of A, of B and of the result. -/
abbrev aM : Memref sig .tc .vmem S2048x1024 .f32 := Memref.whole cc0_stg0_0
abbrev bM : Memref sig .tc .vmem S1024x2048 .f32 := Memref.whole cc0_stg1_0
abbrev oM : Memref sig .tc .vmem S2048x2048 .f32 := Memref.whole cc0_stg2_0
/-- What is sent of A and of B; where A, B's direct half and B's forwarded half land. -/
abbrev aSendM : Memref sig .tc .vmem S2048x1024 .bf16 := Memref.whole cc0_scratch0
abbrev bSendM : Memref sig .tc .vmem S1024x1024 .bf16 := Memref.whole cc0_scratch1
abbrev aRecvM : Memref sig .tc .vmem S2048x1024 .bf16 := Memref.whole cc0_scratch2
abbrev bDirM : Memref sig .tc .vmem S1024x1024 .bf16 := Memref.whole cc0_scratch3
abbrev bFwdM : Memref sig .tc .vmem S1024x1024 .bf16 := Memref.whole cc0_scratch4

theorem chunk_inb (i : Fin 4) : ∀ a, (![512 * i.val, 0] : Fin 2 → Nat) a + S512x1024.size a ≤ S2048x1024.size a := by
  fin_cases i
  · exact inb_S2048x1024_S512x1024_0_0
  · exact inb_S2048x1024_S512x1024_512_0
  · exact inb_S2048x1024_S512x1024_1024_0
  · exact inb_S2048x1024_S512x1024_1536_0

/-- Rows 512 i to 512 i + 511. -/
abbrev chunkR (i : Fin 4) : Rect S2048x1024 := Rect.unit (s := S2048x1024) ![512 * i.val, 0] S512x1024.size (chunk_inb i)
/-- The chunk of a 2048 by 1024 buffer. -/
abbrev chunkM (v : Memref sig .tc .vmem S2048x1024 .bf16) (i : Fin 4) : Memref sig .tc .vmem S512x1024 .bf16 := v.slice (chunkR i) (fun _ => rfl)

/-! ## The cells -/

/-- The thirteen semaphores of one device that the protocol uses. -/
inductive Slot where
  | bar
  | aSend (i : Fin 4)
  | aRecv (i : Fin 4)
  | bSend | bRecv | fwdSend | fwdRecv
deriving DecidableEq

/-- All thirteen, in the order the launch lists them. -/
abbrev Slot.list : List Slot :=
  [.bar, .aSend 0, .aSend 1, .aSend 2, .aSend 3, .aRecv 0, .aRecv 1, .aRecv 2, .aRecv 3, .bSend, .bRecv, .fwdSend, .fwdRecv]

instance : Fintype Slot := ⟨Slot.list.toFinset, fun k => by
  cases k with
  | aSend i => fin_cases i <;> decide
  | aRecv i => fin_cases i <;> decide
  | _ => decide⟩

/-- The barrier semaphore. -/
abbrev barS : Sem sig := (SemArray.scalar (sig.barrier 0 rfl) : Sems sig S_).sem

theorem sem_inb (i : Fin 4) : ∀ a, (![i.val] : Fin 1 → Nat) a + S1.size a ≤ S4.size a := by
  fin_cases i
  · exact inb_S4_S1_0
  · exact inb_S4_S1_1
  · exact inb_S4_S1_2
  · exact inb_S4_S1_3

/-- Entry i of an array of four copy semaphores. -/
abbrev semAt (v : DmaSems sig S4) (i : Fin 4) : DmaSems sig S_ := (v.slice (Rect.unit (s := S4) ![i.val] S1.size (sem_inb i))).squeeze S_ squeezes_S1_S_

/-- The semaphore of each slot. -/
abbrev semOf : Slot → SemLoc sig
  | .bar => .reg barS
  | .aSend i => .dma (semAt cc0_scratch5 i).sem
  | .aRecv i => .dma (semAt cc0_scratch6 i).sem
  | .bSend => .dma cc0_scratch7.sem
  | .bRecv => .dma cc0_scratch8.sem
  | .fwdSend => .dma cc0_scratch9.sem
  | .fwdRecv => .dma cc0_scratch10.sem

/-- The slot of each semaphore, if it is one of the thirteen. -/
def slotOf : SemLoc sig → Option Slot
  | .reg s => if s = barS then some .bar else none
  | .dma q => match q.val with
    | 3 => some (.aSend 0) | 4 => some (.aSend 1) | 5 => some (.aSend 2) | 6 => some (.aSend 3)
    | 7 => some (.aRecv 0) | 8 => some (.aRecv 1) | 9 => some (.aRecv 2) | 10 => some (.aRecv 3)
    | 11 => some .bSend | 12 => some .bRecv | 13 => some .fwdSend | 14 => some .fwdRecv
    | _ => none

theorem slotOf_semOf (k : Slot) : slotOf (semOf k) = some k := by
  revert k; decide

theorem semOf_injective : Function.Injective semOf := fun a b h => by
  have := congrArg slotOf h
  rwa [slotOf_semOf, slotOf_semOf, Option.some.injEq] at this

/-- Slot k of device c. -/
abbrev cell (c : Dev nD) (k : Slot) : GSem nD τ sig := ((c : Thread nD τ), semOf k)

theorem cell_inj {c d : Dev nD} {k l : Slot} (h : cell c k = cell d l) : c = d ∧ k = l :=
  ⟨congrArg (fun g : GSem nD τ sig => g.1.1) h, semOf_injective (congrArg Prod.snd h)⟩

/-! ## Contents -/

/-- Device c's blocks of A and B, as its staging buffers hold them. -/
def aStg (c : Dev nD) : (cc0_stg0_0 : Ref sig .tc).ty.Contents (Elt F) :=
  (win0_0.blk (0 : Fin 1)).view.read (Elt F) ((start₀ m ρ).mem ((c : Thread nD τ).loc main_arg0))
def bStg (c : Dev nD) : (cc0_stg1_0 : Ref sig .tc).ty.Contents (Elt F) :=
  (win0_1.blk (0 : Fin 1)).view.read (Elt F) ((start₀ m ρ).mem ((c : Thread nD τ).loc main_arg1))

/-- Its block of A in the format it is sent in. -/
def aCast (c : Dev nD) : (cc0_scratch0 : Ref sig .tc).ty.Contents (Elt F) := truncf (F := F) (s := S2048x1024) .bf16 (aStg m ρ c) bitsLt_bf16_f32
/-- What lands in its A buffer: its row peer's block. -/
def aGot (c : Dev nD) : (cc0_scratch2 : Ref sig .tc).ty.Contents (Elt F) := aCast m ρ (rowPeer c)

/-- The columns of B a device sends: half x of them on mesh row x. -/
abbrev bHalfR (c : Dev nD) : Rect S1024x2048 := Rect.unit (s := S1024x2048) (k0_off1 c) S1024x1024.size (k0_off1_inb c)
/-- That half in the format it is sent in. -/
def bHalf (c : Dev nD) : (cc0_scratch1 : Ref sig .tc).ty.Contents (Elt F) := k0_pay1 (bM.view.readAt (Elt F) (bHalfR c).toLoadRect (bStg m ρ c))
/-- What the row peer sends of B, and what the column peer passes on. -/
def bDir (c : Dev nD) : (cc0_scratch3 : Ref sig .tc).ty.Contents (Elt F) := bHalf m ρ (rowPeer c)
def bFwd (c : Dev nD) : (cc0_scratch4 : Ref sig .tc).ty.Contents (Elt F) := bDir m ρ (colPeer c)

/-! ## What is held of a buffer -/

/-- Chunk i of a 2048 by 1024 buffer on device c. -/
abbrev chunkPts (v : Memref sig .tc .vmem S2048x1024 .bf16) (c : Dev nD) (i : Fin 4) (f : Buf (Elt F) (v.view.loc (c : Thread nD τ))) : sProp 𝕄 :=
  (chunkM v i).view.loc (c : Thread nD τ) ↦[(chunkM v i).view.set]{fullShare} f
/-- A whole buffer on device c, at a share. -/
abbrev bufPts (b : Ref sig .tc) (c : Dev nD) (q : PosShare TreeShare) (f : Buf (Elt F) ((c : Thread nD τ).loc b)) : sProp 𝕄 :=
  ((c : Thread nD τ).loc b) ↦{q} f

/-! ## The schedule -/

/-- The credit of one chunk, and of one 1024 by 1024 buffer. -/
abbrev chunkCredit (i : Fin 4) : ℕ := (chunkM aRecvM i).view.dmaCredit
abbrev halfCredit : ℕ := (bDirM : Memref sig .tc .vmem S1024x1024 .bf16).view.dmaCredit

/-- The duties of a slot: two at the barrier (`false` the row peer's, `true` the column peer's), one elsewhere. -/
def dutiesOf : Slot → Finset Bool
  | .bar => Finset.univ
  | _ => {false}
/-- What each pays. -/
def amountOf : Slot → ℕ
  | .bar => 1
  | .aSend i => chunkCredit i
  | .aRecv i => chunkCredit i
  | _ => halfCredit
/-- What comes with the payment into slot k of device c. The barrier's payers hand over the buffers they are to be written
    into; a landing brings the buffer at what was sent; a departure brings back what was lent. -/
def payOf (c : Dev nD) : Slot → Bool → sProp 𝕄
  | .bar, false => iprop((∃ f, bufPts cc0_scratch2 (rowPeer c) fullShare f) ∗ ∃ f, bufPts cc0_scratch3 (rowPeer c) fullShare f)
  | .bar, true => iprop(∃ f, bufPts cc0_scratch4 (colPeer c) fullShare f)
  | .aSend i, _ => chunkPts aSendM c i (aCast m ρ c)
  | .aRecv i, _ => chunkPts aRecvM c i (aGot m ρ c)
  | .bSend, _ => bufPts cc0_scratch1 c fullShare (bHalf m ρ c)
  | .bRecv, _ => bufPts cc0_scratch3 c fullShare (bDir m ρ c)
  | .fwdSend, _ => bufPts cc0_scratch3 c fullShare.left (bDir m ρ c)
  | .fwdRecv, _ => bufPts cc0_scratch4 c fullShare (bFwd m ρ c)

theorem chunkCredit_pos (i : Fin 4) : 0 < chunkCredit i := View.dmaCredit_pos _ (by decide)
theorem halfCredit_pos : 0 < halfCredit := View.dmaCredit_pos _ (by decide)
theorem amountOf_pos (k : Slot) : 0 < amountOf k := by
  cases k with
  | bar => exact Nat.one_pos
  | aSend i => exact chunkCredit_pos i
  | aRecv i => exact chunkCredit_pos i
  | _ => exact halfCredit_pos

instance payOf_storable (c : Dev nD) (k : Slot) (d : Bool) : BI.Storable (upEmb : UEmb _ 𝕄) (payOf m ρ c k d) := by
  cases k <;> cases d <;> unfold payOf <;> infer_instance

/-- The protocol: one round at each of the thirteen cells of each device. -/
def sched : Rounds.Schedule (GSem nD τ sig) Bool 𝕄 where
  duties g r := if r = 0 ∧ g.1.2 = .tc then (match slotOf g.2 with | some k => dutiesOf k | none => ∅) else ∅
  unitless _ := False
  amount g _ _ := match slotOf g.2 with | some k => amountOf k | none => 1
  payload g _ d := match slotOf g.2 with | some k => payOf m ρ g.1.1 k d | none => iprop(emp)
  amount_pos g _ _ _ := by
    cases slotOf g.2 with
    | none => exact Nat.one_pos
    | some k => exact amountOf_pos k

instance sched_storable (g : GSem nD τ sig) (r : ℕ) (d : Bool) : BI.Storable (upEmb : UEmb _ 𝕄) ((sched (F := F) m ρ).payload g r d) := by
  show BI.Storable upEmb (match slotOf g.2 with | some k => payOf m ρ g.1.1 k d | none => iprop(emp))
  cases slotOf g.2 <;> infer_instance

section Tables

variable (c : Dev nD) (k : Slot) (d : Bool)

theorem duties_cell : (sched (F := F) m ρ).duties (cell c k) 0 = dutiesOf k := by
  dsimp only [sched]; rw [if_pos ⟨rfl, rfl⟩, slotOf_semOf]
theorem duties_later (g : GSem nD τ sig) : ∀ r, 1 ≤ r → (sched (F := F) m ρ).duties g r = ∅ := fun r hr => by
  dsimp only [sched]; rw [if_neg fun h => by omega]
theorem amount_cell : (sched (F := F) m ρ).amount (cell c k) 0 d = amountOf k := by
  dsimp only [sched]; rw [slotOf_semOf]
theorem payload_cell : (sched (F := F) m ρ).payload (cell c k) 0 d = payOf m ρ c k d := by
  dsimp only [sched]; rw [slotOf_semOf]

/-- A slot's one duty, where there is one. -/
theorem duties_single (hk : k ≠ .bar) : dutiesOf k = {false} := by cases k <;> first | rfl | exact absurd rfl hk

/-- What a round of a slot expects in all. -/
theorem expect_single (hk : k ≠ .bar) : (sched (F := F) m ρ).expect (cell c k) 0 = amountOf k := by
  unfold Schedule.expect Schedule.amountOf
  rw [duties_cell, duties_single k hk, Finset.sum_singleton, amount_cell]
theorem expect_bar : (sched (F := F) m ρ).expect (cell c .bar) 0 = 2 := by
  unfold Schedule.expect Schedule.amountOf
  rw [duties_cell, Finset.sum_congr rfl fun d _ => amount_cell m ρ c .bar d]; rfl

/-- What a whole round brings. -/
theorem rest_single (hk : k ≠ .bar) :
    bigSep ((sched (F := F) m ρ).duties (cell c k) 0 \ ∅) (fun d => (sched (F := F) m ρ).payload (cell c k) 0 d) = payOf m ρ c k false := by
  rw [Finset.sdiff_empty, duties_cell, duties_single k hk, bigSep_singleton, payload_cell]
theorem rest_bar :
    bigSep ((sched (F := F) m ρ).duties (cell c .bar) 0 \ ∅) (fun d => (sched (F := F) m ρ).payload (cell c .bar) 0 d)
      = iprop(payOf m ρ c .bar false ∗ payOf m ρ c .bar true) := by
  rw [Finset.sdiff_empty, duties_cell, show dutiesOf .bar = Finset.univ from rfl, bigSep_univ_eq_bigSepL [false, true] (by decide) (by decide),
    bigSepL_cons_cons, bigSepL_singleton, payload_cell, payload_cell]
  rfl

end Tables

/-! ## Debts at launch, and levels -/

/-- What a device owes once it has signalled both peers and sent its half of B and all of A: the half of B it will pass on. -/
def debtA (c : Dev nD) : CellTallies nD τ sig Unit :=
  tallyAt (cell (colPeer c) .fwdRecv) () halfCredit
/-- What it owes before the send of chunk 3 of A, of chunk 2, of chunk 1, of chunk 0: that chunk and all that comes later. -/
def debt3 (c : Dev nD) : CellTallies nD τ sig Unit := debtA c + tallyAt (cell (rowPeer c) (.aRecv 3)) () (chunkCredit 3)
def debt2 (c : Dev nD) : CellTallies nD τ sig Unit := debt3 c + tallyAt (cell (rowPeer c) (.aRecv 2)) () (chunkCredit 2)
def debt1 (c : Dev nD) : CellTallies nD τ sig Unit := debt2 c + tallyAt (cell (rowPeer c) (.aRecv 1)) () (chunkCredit 1)
def debt0 (c : Dev nD) : CellTallies nD τ sig Unit := debt1 c + tallyAt (cell (rowPeer c) (.aRecv 0)) () (chunkCredit 0)
/-- Before the send of B; before the second signal; at launch. -/
def debtB (c : Dev nD) : CellTallies nD τ sig Unit := debt0 c + tallyAt (cell (rowPeer c) .bRecv) () halfCredit
def debtS (c : Dev nD) : CellTallies nD τ sig Unit := debtB c + tallyAt (cell (colPeer c) .bar) () 1
def debtAll (c : Dev nD) : CellTallies nD τ sig Unit := debtS c + tallyAt (cell (rowPeer c) .bar) () 1

/-- Barrier below B's direct half below everything that comes later; what a device pays to itself lowest. -/
def levelOf : Slot → ℕ
  | .bar => 1
  | .bRecv => 2
  | .aRecv _ => 3
  | .fwdRecv => 3
  | _ => 0

def L (g : GSem nD τ sig) : Finset Unit := if g.1.2 = .tc then {()} else ∅
def lv (g : GSem nD τ sig) (_ : Unit) : ℕ := match slotOf g.2 with | some k => levelOf k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Slot) : lv (cell c k) () = levelOf k := by unfold lv; rw [slotOf_semOf]

/-- A debt with one more entry is owed at that entry's cell or was owed before. -/
theorem pos_add {O : CellTallies nD τ sig Unit} {g₀ g : GSem nD τ sig} {n : ℕ} {u : Unit} (h : 0 < (O + tallyAt g₀ () n) g u) : g = g₀ ∨ 0 < O g u := by
  rw [Pi.add_apply, Finsupp.add_apply, tallyAt_apply] at h
  by_cases hg : g = g₀
  · exact .inl hg
  · rw [if_neg fun h' => hg h'.1, Nat.add_zero] at h; exact .inr h

/-- A debt all of whose cells lie above level n. -/
def Above (n : ℕ) (O : CellTallies nD τ sig Unit) : Prop := ∀ g u, 0 < O g u → ∃ d k, g = cell d k ∧ n < levelOf k

theorem Above.add {n : ℕ} {O : CellTallies nD τ sig Unit} (h : Above n O) (d : Dev nD) (k : Slot) (hk : n < levelOf k) (a : ℕ) :
    Above n (O + tallyAt (cell d k) () a) := fun g u hg => (pos_add hg).elim (fun e => ⟨d, k, e, hk⟩) (h g u)
theorem above_zero (n : ℕ) : Above n 0 := fun g u h => absurd h (Nat.lt_irrefl 0)

theorem above_debtA (c : Dev nD) : Above 2 (debtA c) := by
  have := (above_zero 2).add (colPeer c) .fwdRecv (by decide) halfCredit
  rwa [zero_add] at this
theorem above_debtB (c : Dev nD) : Above 1 (debtB c) :=
  (((((show Above 1 (debtA c) from fun g u h => let ⟨d, k, e, hk⟩ := above_debtA c g u h; ⟨d, k, e, Nat.lt_of_succ_lt hk⟩).add
    _ (.aRecv 3) (by decide) _).add _ (.aRecv 2) (by decide) _).add _ (.aRecv 1) (by decide) _).add _ (.aRecv 0) (by decide) _).add _ .bRecv (by decide) _
theorem above_debtAll (c : Dev nD) : Above 0 (debtAll c) :=
  ((show Above 0 (debtB c) from fun g u h => let ⟨d, k, e, hk⟩ := above_debtB c g u h; ⟨d, k, e, Nat.lt_of_succ_lt hk⟩).add
    _ .bar (by decide) _).add _ .bar (by decide) _

/-- A device may wait at a semaphore whose level is below all it owes. -/
theorem mayWait (c : Dev nD) (sm : SemLoc sig) {n : ℕ} (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by obtain ⟨d, k, rfl, -⟩ := hO g u hg; exact Finset.mem_singleton_self _)
    (fun p hp => by rw [Finset.mem_singleton.mp hp]; exact hn)
    (fun g u hg => by obtain ⟨d, k, rfl, hk⟩ := hO g u hg; rw [lv_cell]; exact hk)

end Cert.MatmulProof

end
-- ==== Proof.Steps.lean ====
/-
The steps of one device's program, each proved once for every slot and every chunk: a wait that brings a slot's payment and
closes the slot, a send into a peer's buffer, the cast of one chunk of A into its send buffer, and the addition of one
partial product into a window of the result.
-/
module

public import proofs.«01_k».proof.Proof.Protocol
public import Idealize.ShloMosaic.Lib.Pipeline.Value

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The shared records -/

/-- Every cell of every device has its invariant, under the name `K` gives it, and is known to have reached round 0. -/
def records (K : Dev nD × Slot → ℕ) : sProp 𝕄 :=
  iprop((bigSep Finset.univ fun p : Dev nD × Slot => cellInv ER (sched m ρ) (K p) (cell p.1 p.2))
    ∗ bigSep Finset.univ fun p : Dev nD × Slot => reached ER (cell p.1 p.2) 0)

instance records_persistent (K : Dev nD × Slot → ℕ) : BI.Persistent (records m ρ K) := by unfold records; infer_instance

variable (K : Dev nD × Slot → ℕ)

theorem all_inv (c : Dev nD) (k : Slot) :
    (bigSep Finset.univ fun p : Dev nD × Slot => (cellInv ER (sched m ρ) (K p) (cell p.1 p.2) : sProp 𝕄)) ⊢ cellInv ER (sched m ρ) (K (c, k)) (cell c k) :=
  bigSep_elim (Finset.mem_univ (c, k))
theorem all_reached (c : Dev nD) (k : Slot) :
    (bigSep Finset.univ fun p : Dev nD × Slot => (reached ER (cell p.1 p.2) 0 : sProp 𝕄)) ⊢ reached ER (cell c k) 0 :=
  bigSep_elim (Finset.mem_univ (c, k))
theorem records_inv (c : Dev nD) (k : Slot) : records m ρ K ⊢ cellInv ER (sched m ρ) (K (c, k)) (cell c k) := by
  unfold records
  iintro ⟨H, -⟩
  iapply (all_inv m ρ K c k); iexact H
theorem records_reached (c : Dev nD) (k : Slot) : records m ρ K ⊢ reached ER (cell c k) 0 := by
  unfold records
  iintro ⟨-, H⟩
  iapply (all_reached (F := F) c k); iexact H

section Steps

/-- A wait for the whole of a slot's one payment: what was paid comes with it, and the slot's counter, at zero, is the
    device's again. -/
theorem wp_collect (c : Dev nD) (k : Slot) (hk : k ≠ .bar) {w : TpuEff nD τ sig (Elt F) Λ₀ .tc PUnit} {n : ℕ}
    (hw : ∀ R : PUnit → sProp 𝕄, wpE (defs₀ (F := F)) 𝒱₀ (c : Thread nD τ) none Set.univ w R = waitSpec (c : Thread nD τ) Set.univ (semOf k) n R)
    (hn : n = amountOf k) {α : Type} {Q : α → sProp 𝕄} {p : PUnit → Prog (TpuEff nD τ sig (Elt F) Λ₀ .tc) α} (O : CellTallies nD τ sig Unit) :
    iprop(records m ρ K ∗ cred (tallyAt (cell c k) () (amountOf k)) ∗ (∃ W, owes (c : Thread nD τ) O W) ∗ MayWait (c : Thread nD τ) (semOf k) () O
        ∗ atPos ER (cell c k) 0 ∅ 0)
      ⊢ iprop((((∃ W, owes (c : Thread nD τ) O W) ∗ semVal (cell c k) 0 ∗ payOf m ρ c k false)
            -∗ wp frame (wpE (defs₀ (F := F)) 𝒱₀ (c : Thread nD τ) none) Set.univ (p ⟨⟩) Q)
          -∗ wp frame (wpE (defs₀ (F := F)) 𝒱₀ (c : Thread nD τ) none) Set.univ (.op w p) Q) := by
  subst hn
  iintro ⟨#HR, Hc, ⟨%W, HO⟩, HM, Hat⟩ Hk
  iapply (Rounds.wp_wait_rest_token 𝒱₀ ER (sched m ρ) (c : Thread nD τ) none (κ := K (c, k)) hw (Set.mem_univ _) () (O := O) (W := W)
      (R := 0) (m := 0) (T := ∅) (by rw [Nat.zero_add, expect_single m ρ c k hk])) $$ [Hc HO HM Hat]
  · isplitr; · iapply (records_inv m ρ K c k); iexact HR
    isplitl [Hc]; · iexact Hc
    isplitl [HO]; · iexact HO
    isplitl [HM]; · iexact HM
    iexact Hat
  iintro ⟨HO, Hat, -, Hpay⟩
  ihave Hp := (Entails.of_eq (rest_single m ρ c k hk)) $$ Hpay
  imod (Rounds.cell_close ER (sched m ρ) (Set.mem_univ (K (c, k))) (fun h => h) (R := 0 + 1) (duties_later m ρ (cell c k))) $$ [Hat] with Hz
  · isplitr; · iapply (records_inv m ρ K c k); iexact HR
    iexact Hat
  iapply Hk
  isplitl [HO]; · iexists _; iexact HO
  isplitl [Hz]; · iexact Hz
  iexact Hp

/-- A copy into a peer's buffer: the source, at the share lent, goes with the slot `kS` of the sender, the destination with
    the slot `kR` of the peer, and the peer's entry leaves the debt. -/
theorem wp_send (c d n : Dev nD) (hn : n = d) (kS kR : Slot) (hS : false ∈ dutiesOf kS) (hR : false ∈ dutiesOf kR)
    {s : Shape} {e : EltTy} {src dst : Memref sig .tc .vmem s e}
    {hsc : (dst : Memref sig (Dev.tc n : Thread nD τ).2.kind .vmem s e).view.ref.isScScratch = false}
    {hsrc : src.view.WordExact} {hdst : dst.view.WordExact}
    {hsem : DmaTarget.Typed .vmem (semOf kR) (.remote (Dev.tc n : Thread nD τ) dst (semOf kS) hsc)}
    (N : ℕ) (hN : dst.view.amount (semOf kR) = N) (hNS : amountOf kS = N) (hNR : amountOf kR = N)
    {q : PosShare TreeShare} {fs : Buf (Elt F) (src.view.loc (c : Thread nD τ))} {fd : Buf (Elt F) (dst.view.loc (d : Thread nD τ))}
    (hpS : (src.view.loc (c : Thread nD τ) ↦[src.view.set]{q} fs) ⊢ payOf m ρ c kS false)
    (hpR : (dst.view.loc (d : Thread nD τ) ↦[dst.view.set]{fullShare} (dst.view.write (Elt F) fd (src.view.read (Elt F) fs) Finset.univ)) ⊢ payOf m ρ d kR false)
    {α : Type} {Q : α → sProp 𝕄} {p : PUnit → Prog (TpuEff nD τ sig (Elt F) Λ₀ .tc) α} (O₀ O : CellTallies nD τ sig Unit) (hO : O₀ = O + tallyAt (cell d kR) () N) :
    iprop(records m ρ K ∗ (src.view.loc (c : Thread nD τ) ↦[src.view.set]{q} fs) ∗ (dst.view.loc (d : Thread nD τ) ↦[dst.view.set]{fullShare} fd)
        ∗ (∃ W, owes (c : Thread nD τ) O₀ W) ∗ dutyTok ER (cell c kS) 0 false ∗ dutyTok ER (cell d kR) 0 false)
      ⊢ iprop(((cred (tallyAt (cell c kS) () (amountOf kS)) ∗ ∃ W, owes (c : Thread nD τ) O W)
            -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma src (.remote (Dev.tc n : Thread nD τ) dst (semOf kS) hsc) (semOf kR) hsrc hdst hsem) p) Q) := by
  subst hn
  iintro ⟨#HR, Hs, Hd, ⟨%W, HO⟩, HtS, HtR⟩ Hk
  iapply (Rounds.wp_send_pointsTo 𝒱₀ ER (sched m ρ) (c : Thread nD τ) none (κ₁ := K (c, kS)) (κ₂ := K (n, kR)) (r₁ := 0) (r₂ := 0)
      (d₁ := false) (d₂ := false) (q := q) (fs := fs) (fd := fd)
      (by rw [duties_cell]; exact hS) (by rw [duties_cell]; exact hR) () () N hN
      ((amount_cell m ρ c kS false).trans hNS) ((amount_cell m ρ n kR false).trans hNR) O hO (W := W)
      (by rw [payload_cell]; exact hpS) (by rw [payload_cell]; exact hpR)) $$ [Hs Hd HO HtS HtR]
  · isplitr; · iapply (records_inv m ρ K c kS); iexact HR
    isplitr; · iapply (records_inv m ρ K n kR); iexact HR
    isplitl [Hs]; · iexact Hs
    isplitl [Hd]; · iexact Hd
    isplitl [HO]; · iexact HO
    isplitl [HtS]; · iexact HtS
    isplitr; · iapply (records_reached m ρ K c kS); iexact HR
    isplitl [HtR]; · iexact HtR
    iapply (records_reached m ρ K n kR); iexact HR
  iintro ⟨Hc, HO⟩
  iapply Hk
  rw [hNS]
  isplitl [Hc]; · iexact Hc
  iexists _; iexact HO

end Steps

/-! ## Views of the buffers -/

theorem hz : (![0, 0] : Fin 2 → Nat) = fun _ => 0 := funext fun a => by fin_cases a <;> rfl

/-- The elements of a view depend only on what it reads there. -/
theorem pts_of_read {c : Thread nD τ} {s : Shape} {e : EltTy} (v : View sig c.2.kind .vmem s e) {q : PosShare TreeShare}
    {f g : Buf (Elt F) (v.loc c)} (h : v.read (Elt F) f = v.read (Elt F) g) :
    (v.loc c ↦[v.set]{q} f : sProp 𝕄) = (v.loc c ↦[v.set]{q} g) := by
  refine pointsTo_congr fun i hi => ?_
  obtain ⟨x, -, rfl⟩ := Finset.mem_map.mp hi
  have := congrFun h x
  rw [View.read_apply, View.read_apply] at this
  exact eq_of_heq ((cast_heq _ _).symm.trans ((heq_of_eq this).trans (cast_heq _ _)))

/-- The four row chunks are apart and make up the buffer. -/
theorem chunk_disjoint (i j : Fin 4) (h : i ≠ j) : Disjoint (chunkR i).set (chunkR j).set := by
  rw [Finset.disjoint_left]
  intro x hi hj
  have h1 := (Rect.mem_set_unit.mp hi) 0
  have h2 := (Rect.mem_set_unit.mp hj) 0
  have e1 : (![512 * i.val, 0] : Fin 2 → Nat) 0 = 512 * i.val := rfl
  have e2 : (![512 * j.val, 0] : Fin 2 → Nat) 0 = 512 * j.val := rfl
  have e3 : S512x1024.size 0 = 512 := rfl
  rw [e1, e3] at h1; rw [e2, e3] at h2
  exact h (Fin.ext (by omega))
theorem chunk_cover : (Finset.univ : Finset (Fin 4)).biUnion (fun i => (chunkR i).set) = Finset.univ := by
  refine Finset.eq_univ_iff_forall.mpr fun x => Finset.mem_biUnion.mpr ?_
  have h0 : (x 0).val < 2048 := (x 0).isLt
  have h1 : (x 1).val < 1024 := (x 1).isLt
  refine ⟨⟨(x 0).val / 512, by omega⟩, Finset.mem_univ _, Rect.mem_set_unit.mpr fun a => ?_⟩
  fin_cases a
  · show 512 * ((x 0).val / 512) ≤ (x 0).val ∧ (x 0).val < 512 * ((x 0).val / 512) + 512
    omega
  · show 0 ≤ (x 1).val ∧ (x 1).val < 0 + 1024
    omega

theorem chunks_send (c : Dev nD) (f : Buf (Elt F) ((c : Thread nD τ).loc cc0_scratch0)) :
    (bufPts cc0_scratch0 c fullShare f : sProp 𝕄) = bigSep Finset.univ fun i : Fin 4 => chunkPts aSendM c i f := by
  have := pointsTo_biUnion (ℓ := (c : Thread nD τ).loc cc0_scratch0) (q := fullShare) (f := f) (Ix := Unit) (Name := ℕ) (U := UU) (Lvl := ℕ)
    (Finset.univ : Finset (Fin 4)) (fun i => (chunkR i).set) (fun i _ j _ h => chunk_disjoint i j h)
  rw [chunk_cover] at this
  refine this.trans (bigSep_congr fun i _ => ?_)
  exact congrArg (fun S => ((c : Thread nD τ).loc cc0_scratch0 ↦[S]{fullShare} f : sProp 𝕄)) (View.set_slice_whole cc0_scratch0 (chunkR i)).symm
theorem chunks_recv (c : Dev nD) (f : Buf (Elt F) ((c : Thread nD τ).loc cc0_scratch2)) :
    (bufPts cc0_scratch2 c fullShare f : sProp 𝕄) = bigSep Finset.univ fun i : Fin 4 => chunkPts aRecvM c i f := by
  have := pointsTo_biUnion (ℓ := (c : Thread nD τ).loc cc0_scratch2) (q := fullShare) (f := f) (Ix := Unit) (Name := ℕ) (U := UU) (Lvl := ℕ)
    (Finset.univ : Finset (Fin 4)) (fun i => (chunkR i).set) (fun i _ j _ h => chunk_disjoint i j h)
  rw [chunk_cover] at this
  refine this.trans (bigSep_congr fun i _ => ?_)
  exact congrArg (fun S => ((c : Thread nD τ).loc cc0_scratch2 ↦[S]{fullShare} f : sProp 𝕄)) (View.set_slice_whole cc0_scratch2 (chunkR i)).symm

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-! ## Contents of the copies -/

/-- A chunk of A, cast as the kernel casts it, is that chunk of the cast block. -/
theorem cast_chunk (c : Dev nD) (i : Fin 4) (f : (cc0_scratch0 : Ref sig .tc).ty.Contents (Elt F)) :
    (chunkPts aSendM c i ((aSendM.access (chunkR i)).write (Elt F) f (k0_pay2 (aM.view.readAt (Elt F) (chunkR i).toLoadRect (aStg m ρ c))) Finset.univ) : sProp 𝕄)
      = chunkPts aSendM c i (aCast m ρ c) := by
  refine pts_of_read _ ?_
  refine (View.read_write_univ (v := aSendM.access (chunkR i)) (Val := Elt F) f _).trans ?_
  unfold k0_pay2
  dsimp only
  rw [shapeCast_self, shapeCast_self]
  rfl

/-- What a chunk's copy leaves at the peer is that chunk of what the peer is to get. -/
theorem land_chunk (c : Dev nD) (i : Fin 4) (f : (cc0_scratch2 : Ref sig .tc).ty.Contents (Elt F)) :
    (chunkPts aRecvM (rowPeer c) i ((chunkM aRecvM i).view.write (Elt F) f ((chunkM aSendM i).view.read (Elt F) (aCast m ρ c)) Finset.univ) : sProp 𝕄)
      = chunkPts aRecvM (rowPeer c) i (aGot m ρ (rowPeer c)) := by
  refine pts_of_read _ ?_
  refine (View.read_write_univ (v := (chunkM aRecvM i).view) (Val := Elt F) f _).trans ?_
  unfold aGot
  rw [rowPeer_rowPeer]
  rfl

/-- The view of a whole buffer is all of it. -/
theorem whole_pts (b : Ref sig .tc) (c : Dev nD) (q : PosShare TreeShare) (f : Buf (Elt F) ((c : Thread nD τ).loc b)) :
    (((Memref.whole b).view.loc (c : Thread nD τ) ↦[(Memref.whole b).view.set]{q} f) : sProp 𝕄) = bufPts b c q f := by
  simp only [Memref.view_whole, View.set_whole]

/-- What the copy of a half of B leaves at the row peer is what the row peer is to get; -/
theorem land_direct (c : Dev nD) (f : (cc0_scratch3 : Ref sig .tc).ty.Contents (Elt F)) :
    bDirM.view.write (Elt F) f (bSendM.view.read (Elt F) (bHalf m ρ c)) Finset.univ = bDir m ρ (rowPeer c) := by
  unfold bDir
  rw [rowPeer_rowPeer]
  exact View.write_whole_univ (Val := Elt F) cc0_scratch3 f _
/-- and of the forwarded one at the column peer. -/
theorem land_forward (c : Dev nD) (f : (cc0_scratch4 : Ref sig .tc).ty.Contents (Elt F)) :
    bFwdM.view.write (Elt F) f (bDirM.view.read (Elt F) (bDir m ρ c)) Finset.univ = bFwd m ρ (colPeer c) := by
  unfold bFwd
  rw [colPeer_colPeer]
  exact View.write_whole_univ (Val := Elt F) cc0_scratch4 f _

/-! ## The two composite steps -/

section Composite

/-- One chunk of A is loaded, cast, and stored into the send buffer. -/
theorem wp_cast_chunk (c : Dev nD) (i : Fin 4) (f : (cc0_scratch0 : Ref sig .tc).ty.Contents (Elt F))
    {hl₁ : aM.view.LoadsAt (chunkR i).toLoadRect} {hl₂ : aSendM.view.LoadsAt (chunkR i).toLoadRect}
    {hx : (aSendM.access (chunkR i)).Stores Finset.univ} {hm : (Finset.univ : Finset (chunkR i).shape.Idx) = Finset.univ ∨ ∀ a, (chunkR i).stride a = 1}
    {α : Type} {Q : α → sProp 𝕄} {p : PUnit → Prog (TpuEff nD τ sig (Elt F) Λ₀ .tc) α} :
    iprop(bufPts cc0_stg0_0 c fullShare (aStg m ρ c) ∗ chunkPts aSendM c i f)
      ⊢ iprop(((bufPts cc0_stg0_0 c fullShare (aStg m ρ c) ∗ chunkPts aSendM c i (aCast m ρ c))
            -∗ wp frame (wpE (defs₀ (F := F)) 𝒱₀ (c : Thread nD τ) none) Set.univ (p ⟨⟩) Q)
          -∗ wp frame (wpE (defs₀ (F := F)) 𝒱₀ (c : Thread nD τ) none) Set.univ
            (.op (.load aM (chunkR i).toLoadRect hl₁) fun v => .op (.load aSendM (chunkR i).toLoadRect hl₂) fun _ =>
              .op (.store aSendM (chunkR i) (k0_pay2 v) Finset.univ hx hm) p) Q) := by
  iintro ⟨Ha, Hs⟩ Hk
  iapply (wp_load 𝒱₀ (c : Thread nD τ) none Set.univ (m := aM) (Finset.subset_univ _)) $$ Ha; iintro Ha
  iapply (wp_load 𝒱₀ (c : Thread nD τ) none Set.univ (m := aSendM) (S := (chunkM aSendM i).view.set) (by rw [View.set_slice]; exact subset_rfl)) $$ Hs; iintro Hs
  iapply (wp_store 𝒱₀ (c : Thread nD τ) none Set.univ (m := aSendM) (r := chunkR i) (S := (chunkM aSendM i).view.set) (Mk := Finset.univ)
    (by rw [View.setOn_univ])) $$ Hs; iintro Hs
  iapply Hk
  isplitl [Ha]; · iexact Ha
  iapply (Entails.of_eq (cast_chunk m ρ c i f)); iexact Hs

/-- The result buffer `f` with the product of `a` and `b` added into the 512 by 1024 window at `off`. -/
def addInto (off : Fin 2 → Nat) (inb : ∀ j, off j + S512x1024.size j ≤ S2048x2048.size j)
    (a : Vec F S512x1024 .bf16) (b : Vec F S1024x1024 .bf16) (f : (cc0_stg2_0 : Ref sig .tc).ty.Contents (Elt F)) : (cc0_stg2_0 : Ref sig .tc).ty.Contents (Elt F) :=
  (oM.access (Rect.unit (s := S2048x2048) off S512x1024.size inb)).write (Elt F) f
    (k0_pay9 (oM.view.readAt (Elt F) (Rect.unit (s := S2048x2048) off S512x1024.size inb).toLoadRect f) a b) Finset.univ

/-- Chunk i of the A a device got, as its loads read it. -/
def aChunk (c : Dev nD) (i : Fin 4) : Vec F S512x1024 .bf16 := aRecvM.view.readAt (Elt F) (chunkR i).toLoadRect (aGot m ρ c)

abbrev wholeHalf : Rect S1024x1024 := Rect.unit (s := S1024x1024) ![0, 0] S1024x1024.size inb_S1024x1024_S1024x1024_0_0

/-- A window of the result, a chunk of A and a half of B are loaded, and the sum of the first with the product of the others
    is stored back. The half of B is held at any share; the window is given by its corner's closed form. -/
theorem wp_accumulate (c : Dev nD) (i : Fin 4) (off : Fin 2 → Nat) (inb : ∀ j, off j + S512x1024.size j ≤ S2048x2048.size j)
    (b : Memref sig .tc .vmem S1024x1024 .bf16) (q : PosShare TreeShare) (fb : Buf (Elt F) (b.view.loc (c : Thread nD τ)))
    (B : Vec F S1024x1024 .bf16) (hB : b.view.readAt (Elt F) wholeHalf.toLoadRect fb = B)
    (f : (cc0_stg2_0 : Ref sig .tc).ty.Contents (Elt F))
    {off' : Fin 2 → Nat} (he : off' = off) {inb' : ∀ j, off' j + S512x1024.size j ≤ S2048x2048.size j}
    {hl₁ hl₄ : oM.view.LoadsAt (Rect.unit (s := S2048x2048) off' S512x1024.size inb').toLoadRect} {hl₂ : aRecvM.view.LoadsAt (chunkR i).toLoadRect}
    {hl₃ : b.view.LoadsAt wholeHalf.toLoadRect}
    {hx : (oM.access (Rect.unit (s := S2048x2048) off' S512x1024.size inb')).Stores Finset.univ}
    {hm : (Finset.univ : Finset (Rect.unit (s := S2048x2048) off' S512x1024.size inb').shape.Idx) = Finset.univ ∨ ∀ a, (Rect.unit (s := S2048x2048) off' S512x1024.size inb').stride a = 1}
    {α : Type} {Q : α → sProp 𝕄} {p : PUnit → Prog (TpuEff nD τ sig (Elt F) Λ₀ .tc) α} :
    iprop(bufPts cc0_stg2_0 c fullShare f ∗ chunkPts aRecvM c i (aGot m ρ c) ∗ (b.view.loc (c : Thread nD τ) ↦{q} fb))
      ⊢ iprop(((bufPts cc0_stg2_0 c fullShare (addInto off inb (aChunk m ρ c i) B f) ∗ chunkPts aRecvM c i (aGot m ρ c) ∗ (b.view.loc (c : Thread nD τ) ↦{q} fb))
            -∗ wp frame (wpE (defs₀ (F := F)) 𝒱₀ (c : Thread nD τ) none) Set.univ (p ⟨⟩) Q)
          -∗ wp frame (wpE (defs₀ (F := F)) 𝒱₀ (c : Thread nD τ) none) Set.univ
            (.op (.load oM (Rect.unit (s := S2048x2048) off' S512x1024.size inb').toLoadRect hl₁) fun v =>
              .op (.load aRecvM (chunkR i).toLoadRect hl₂) fun x =>
              .op (.load b wholeHalf.toLoadRect hl₃) fun y =>
              .op (.load oM (Rect.unit (s := S2048x2048) off' S512x1024.size inb').toLoadRect hl₄) fun _ =>
              .op (.store oM (Rect.unit (s := S2048x2048) off' S512x1024.size inb') (k0_pay9 v x y) Finset.univ hx hm) p) Q) := by
  subst hB he
  iintro ⟨Ho, Ha, Hb⟩ Hk
  iapply (wp_load 𝒱₀ (c : Thread nD τ) none Set.univ (m := oM) (Finset.subset_univ _)) $$ Ho; iintro Ho
  iapply (wp_load 𝒱₀ (c : Thread nD τ) none Set.univ (m := aRecvM) (S := (chunkM aRecvM i).view.set) (by rw [View.set_slice]; exact subset_rfl)) $$ Ha; iintro Ha
  iapply (wp_load 𝒱₀ (c : Thread nD τ) none Set.univ (m := b) (Finset.subset_univ _)) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := Rect.unit (s := S2048x2048) off' S512x1024.size inb') (Mk := Finset.univ)
    (Finset.subset_univ _)) $$ Ho; iintro Ho
  iapply Hk
  isplitl [Ho]; · unfold addInto aChunk; iexact Ho
  isplitl [Ha]; · iexact Ha
  iexact Hb

end Composite

end Cert.MatmulProof

end
-- ==== Proof.Body.lean ====
/-
One device's program, run from its share of the protocol's ghost state and the staged blocks to the result block: the proof
data of the staging pipeline, the program stepped in order, and the library's obligation on the body.
-/
module

public import proofs.«01_k».proof.Proof.Steps
public import proofs.«01_k».proof.Proof.Gen.KernelIdeal.Points

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device computes -/

theorem direct_inb (c : Dev nD) (i : Fin 4) : ∀ j, (![512 * i.val, 1024 * (c.val / 2)] : Fin 2 → Nat) j + S512x1024.size j ≤ S2048x2048.size j := by
  revert c i; decide
theorem forward_inb (c : Dev nD) (i : Fin 4) : ∀ j, (![512 * i.val, 1024 - 1024 * (c.val / 2)] : Fin 2 → Nat) j + S512x1024.size j ≤ S2048x2048.size j := by
  revert c i; decide

/-- Row chunk i of the result completed: in the columns of B's direct half, then in those of its forwarded half. -/
def addRow (c : Dev nD) (i : Fin 4) (f : (cc0_stg2_0 : Ref sig .tc).ty.Contents (Elt F)) : (cc0_stg2_0 : Ref sig .tc).ty.Contents (Elt F) :=
  addInto ![512 * i.val, 1024 - 1024 * (c.val / 2)] (forward_inb c i) (aChunk m ρ c i) (bFwd m ρ c)
    (addInto ![512 * i.val, 1024 * (c.val / 2)] (direct_inb c i) (aChunk m ρ c i) (bDir m ρ c) f)
/-- The result block: the product of the device's own blocks, then the four row chunks completed. -/
def outAt (c : Dev nD) : (cc0_stg2_0 : Ref sig .tc).ty.Contents (Elt F) :=
  addRow m ρ c 3 (addRow m ρ c 2 (addRow m ρ c 1 (addRow m ρ c 0 (k0_pay6 (aStg m ρ c) (bStg m ρ c)))))

/-! ## What a device starts from -/

/-- Which device's cell a device pays, for each of the fourteen duties it pays: `none` the column peer's barrier, `some k`
    the first duty of slot k. -/
def payee : Option Slot → Dev nD ≃ Dev nD
  | none => colSwap
  | some .bar => rowSwap
  | some (.aRecv _) => rowSwap
  | some .bRecv => rowSwap
  | some .fwdRecv => colSwap
  | some _ => Equiv.refl _

/-- A duty's token. -/
def tokAt (c : Dev nD) (t : Option Slot) : sProp 𝕄 := dutyTok ER (cell c (t.getD .bar)) 0 t.isNone
/-- The tokens a device pays with. -/
def payToks (c : Dev nD) : sProp 𝕄 := bigSep Finset.univ fun t : Option Slot => tokAt (payee t c) t

/-- Its ghost state: the shared records, its positions before each slot's round, its tokens. -/
def ghost (K : Dev nD × Slot → ℕ) (c : Dev nD) : sProp 𝕄 :=
  iprop(records m ρ K ∗ (bigSep Finset.univ fun k : Slot => atPos ER (cell c k) 0 ∅ 0) ∗ payToks c)

/-- The credit for its waits that others pay. -/
def creds (c : Dev nD) : sProp 𝕄 :=
  iprop(cred (tallyAt (cell c .bar) () 2) ∗ cred (tallyAt (cell c .bRecv) () (amountOf .bRecv)) ∗ cred (tallyAt (cell c .fwdRecv) () (amountOf .fwdRecv))
    ∗ bigSep Finset.univ fun i : Fin 4 => cred (tallyAt (cell c (.aRecv i)) () (amountOf (.aRecv i))))

/-- Its five scratch buffers. -/
def scratch (c : Dev nD) : sProp 𝕄 :=
  iprop((∃ f, bufPts cc0_scratch0 c fullShare f) ∗ (∃ f, bufPts cc0_scratch1 c fullShare f) ∗ (∃ f, bufPts cc0_scratch2 c fullShare f)
    ∗ (∃ f, bufPts cc0_scratch3 c fullShare f) ∗ ∃ f, bufPts cc0_scratch4 c fullShare f)

def startOf (c : Dev nD) : sProp 𝕄 := iprop((∃ K, ghost m ρ K c) ∗ creds c ∗ levAts L lv)

def Φ₀ (c : Dev nD) : sProp 𝕄 := iprop(startOf m ρ c ∗ scratch c)
/-- After its body: the scratch buffers, and its thirteen counters back at zero. -/
def Φ₁ (c : Dev nD) : sProp 𝕄 := iprop(scratch c ∗ bigSep Finset.univ fun k : Slot => semVal (cell c k) 0)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => aStg m ρ c
    | ⟨1, _⟩ => bStg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => debtAll c
    | ⟨_ + 1, _⟩ => 0

/-- A staging buffer at known contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns stg; simp only [Memref.view_whole, View.read_whole, View.set_whole]

theorem bigSep_slots (Φ : Slot → sProp 𝕄) : bigSep Finset.univ Φ
    = iprop(Φ .bar ∗ Φ (.aSend 0) ∗ Φ (.aSend 1) ∗ Φ (.aSend 2) ∗ Φ (.aSend 3) ∗ Φ (.aRecv 0) ∗ Φ (.aRecv 1) ∗ Φ (.aRecv 2) ∗ Φ (.aRecv 3)
        ∗ Φ .bSend ∗ Φ .bRecv ∗ Φ .fwdSend ∗ Φ .fwdRecv) :=
  bigSep_univ_eq_bigSepL Slot.list (by decide) (by decide) Φ
theorem bigSep_toks (Φ : Option Slot → sProp 𝕄) : bigSep Finset.univ Φ
    = iprop(Φ none ∗ Φ (some .bar) ∗ Φ (some (.aSend 0)) ∗ Φ (some (.aSend 1)) ∗ Φ (some (.aSend 2)) ∗ Φ (some (.aSend 3))
        ∗ Φ (some (.aRecv 0)) ∗ Φ (some (.aRecv 1)) ∗ Φ (some (.aRecv 2)) ∗ Φ (some (.aRecv 3))
        ∗ Φ (some .bSend) ∗ Φ (some .bRecv) ∗ Φ (some .fwdSend) ∗ Φ (some .fwdRecv)) :=
  bigSep_univ_eq_bigSepL (none :: Slot.list.map some) (by decide) (by decide) Φ

theorem payToks_eq (c : Dev nD) : (payToks c : sProp 𝕄)
    = iprop(dutyTok ER (cell (colPeer c) .bar) 0 true ∗ dutyTok ER (cell (rowPeer c) .bar) 0 false
        ∗ dutyTok ER (cell c (.aSend 0)) 0 false ∗ dutyTok ER (cell c (.aSend 1)) 0 false
        ∗ dutyTok ER (cell c (.aSend 2)) 0 false ∗ dutyTok ER (cell c (.aSend 3)) 0 false
        ∗ dutyTok ER (cell (rowPeer c) (.aRecv 0)) 0 false ∗ dutyTok ER (cell (rowPeer c) (.aRecv 1)) 0 false
        ∗ dutyTok ER (cell (rowPeer c) (.aRecv 2)) 0 false ∗ dutyTok ER (cell (rowPeer c) (.aRecv 3)) 0 false
        ∗ dutyTok ER (cell c .bSend) 0 false ∗ dutyTok ER (cell (rowPeer c) .bRecv) 0 false
        ∗ dutyTok ER (cell c .fwdSend) 0 false ∗ dutyTok ER (cell (colPeer c) .fwdRecv) 0 false) :=
  bigSep_toks _

/-- Both duties are due at a barrier cell. -/
theorem bar_duty (c : Dev nD) (d : Bool) : d ∈ (sched (F := F) m ρ).duties (cell c .bar) 0 := by
  rw [duties_cell]; exact Finset.mem_univ _

/-! ## The program's values under one name -/

theorem pay3_eq : k0_pay3 (F := F) = k0_pay2 := rfl
theorem pay4_eq : k0_pay4 (F := F) = k0_pay2 := rfl
theorem pay5_eq : k0_pay5 (F := F) = k0_pay2 := rfl
theorem pay8_eq (v : Vec F S512x1024 .f32) (x : Vec F S512x1024 .bf16) (y : Vec F S1024x1024 .bf16) : k0_pay8 (k0_pay7 v) x y = k0_pay9 v x y := rfl
theorem pay11_eq (v : Vec F S512x1024 .f32) (x : Vec F S512x1024 .bf16) (y : Vec F S1024x1024 .bf16) : k0_pay11 (k0_pay10 v) x y = k0_pay9 v x y := rfl
theorem pay12_eq : k0_pay12 (F := F) = k0_pay9 := rfl
theorem pay15_eq (v : Vec F S512x1024 .f32) (x : Vec F S512x1024 .bf16) (y : Vec F S1024x1024 .bf16) : k0_pay15 (k0_pay13 v) (k0_pay14 x y) = k0_pay9 v x y := rfl
theorem pay16_eq : k0_pay16 (F := F) = k0_pay9 := rfl
theorem pay17_eq : k0_pay17 (F := F) = k0_pay9 := rfl
theorem pay18_eq : k0_pay18 (F := F) = k0_pay9 := rfl

/-! ## Whole-buffer loads and stores -/

theorem write_half (c : Dev nD) (f : (cc0_scratch1 : Ref sig .tc).ty.Contents (Elt F)) :
    (bSendM.access wholeHalf).write (Elt F) f (k0_pay1 (bM.view.readAt (Elt F) (bHalfR c).toLoadRect (bStg m ρ c))) Finset.univ = bHalf m ρ c :=
  Memref.write_access_unit_zero_univ (Elt F) cc0_scratch1 hz _ f _
theorem read_direct (c : Dev nD) : bDirM.view.readAt (Elt F) wholeHalf.toLoadRect (bDir m ρ c) = bDir m ρ c :=
  Memref.readAt_unit_zero (Elt F) cc0_scratch3 hz _ _
theorem read_forward (c : Dev nD) : bFwdM.view.readAt (Elt F) wholeHalf.toLoadRect (bFwd m ρ c) = bFwd m ρ c :=
  Memref.readAt_unit_zero (Elt F) cc0_scratch4 hz _ _
theorem write_own (c : Dev nD) (f : (cc0_stg2_0 : Ref sig .tc).ty.Contents (Elt F)) :
    (oM.access (Rect.unit (s := S2048x2048) ![0, 0] S2048x2048.size inb_S2048x2048_S2048x2048_0_0)).write (Elt F) f
      (k0_pay6 (aM.view.readAt (Elt F) (Rect.unit (s := S2048x1024) ![0, 0] S2048x1024.size inb_S2048x1024_S2048x1024_0_0).toLoadRect (aStg m ρ c))
        (bM.view.readAt (Elt F) (Rect.unit (s := S1024x2048) ![0, 0] S1024x2048.size inb_S1024x2048_S1024x2048_0_0).toLoadRect (bStg m ρ c))) Finset.univ
      = k0_pay6 (aStg m ρ c) (bStg m ρ c) := by
  rw [show aM.view.readAt (Elt F) (Rect.unit (s := S2048x1024) ![0, 0] S2048x1024.size inb_S2048x1024_S2048x1024_0_0).toLoadRect (aStg m ρ c) = aStg m ρ c
      from Memref.readAt_unit_zero (Elt F) cc0_stg0_0 hz _ _,
    show bM.view.readAt (Elt F) (Rect.unit (s := S1024x2048) ![0, 0] S1024x2048.size inb_S1024x2048_S1024x2048_0_0).toLoadRect (bStg m ρ c) = bStg m ρ c
      from Memref.readAt_unit_zero (Elt F) cc0_stg1_0 hz _ _]
  exact Memref.write_access_unit_zero_univ (Elt F) cc0_stg2_0 hz _ f _

/-! ## The body -/

section Body

variable (K : Dev nD × Slot → ℕ)

def bodyPre (c : Dev nD) : sProp 𝕄 :=
  iprop((ghost m ρ K c ∗ creds c ∗ levAts L lv ∗ scratch c)
    ∗ (∃ W, owes (c : Thread nD τ) (debtAll c) W)
    ∗ bufPts cc0_stg0_0 c fullShare (aStg m ρ c) ∗ bufPts cc0_stg1_0 c fullShare (bStg m ρ c) ∗ ∃ f, bufPts cc0_stg2_0 c fullShare f)

def bodyPost (c : Dev nD) : sProp 𝕄 :=
  iprop(Φ₁ c ∗ (∃ W, owes (c : Thread nD τ) 0 W)
    ∗ bufPts cc0_stg0_0 c fullShare (aStg m ρ c) ∗ bufPts cc0_stg1_0 c fullShare (bStg m ρ c) ∗ bufPts cc0_stg2_0 c fullShare (outAt m ρ c))

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body aM (Memref.isWhole_whole _) bM (Memref.isWhole_whole _) oM (Memref.isWhole_whole _)
            aSendM (Memref.isWhole_whole _) bSendM (Memref.isWhole_whole _) aRecvM (Memref.isWhole_whole _)
            bDirM (Memref.isWhole_whole _) bFwdM (Memref.isWhole_whole _)
            cc0_scratch5 cc0_scratch6 cc0_scratch7 cc0_scratch8 cc0_scratch9 cc0_scratch10) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton]
  unfold k0_part1_skel k0_part2_skel k0_part3_skel k0_part4_skel k0_part5_skel k0_part6_skel k0_part7_skel k0_part8_skel
  simp only [semSignalWord, semWaitWord, Prog.lift, Prog.bind_op, Prog.bind_ret, Prog.pure_eq_ret, wp_deviceId,
    pay3_eq, pay4_eq, pay5_eq, pay8_eq, pay11_eq, pay12_eq, pay15_eq, pay16_eq, pay17_eq, pay18_eq, dev1_eq c, dev2_eq c]
  unfold bodyPre ghost creds scratch
  rw [bigSep_slots, payToks_eq, bigSep_four]
  iintro ⟨⟨⟨⟨#HR, ⟨PB, PaS0, PaS1, PaS2, PaS3, PaR0, PaR1, PaR2, PaR3, PbS, PbR, PfS, PfR⟩,
      ⟨TBc, TBr, TaS0, TaS1, TaS2, TaS3, TaR0, TaR1, TaR2, TaR3, TbS, TbR, TfS, TfR⟩⟩,
      ⟨CB, CbR, CfR, CaR0, CaR1, CaR2, CaR3⟩, #Hlev, ⟨⟨%f0, S0⟩, ⟨%f1, S1⟩, ⟨%f2, S2⟩, ⟨%f3, S3⟩, ⟨%f4, S4⟩⟩⟩,
    ⟨%W, HO⟩, Ha, Hb, ⟨%fo, Ho⟩⟩, Hk⟩
  -- both peers are told that the buffers they write into are free
  iapply (Rounds.wp_signal 𝒱₀ ER (sched m ρ) (c : Thread nD τ) none (dst := (rowPeer c : Thread nD τ)) (κ := K (rowPeer c, .bar)) (r := 0)
      (d := false) (bar_duty m ρ (rowPeer c) false) ((amount_cell m ρ (rowPeer c) .bar false).trans (by decide)) () (debtS c) rfl)
    $$ [HO TBr S2 S3]
  · isplitr; · iapply (records_inv m ρ K (rowPeer c) .bar); iexact HR
    isplitl [HO]; · iexact HO
    isplitl [TBr]; · iexact TBr
    isplitl [S2 S3]
    · iapply (Entails.of_eq (payload_cell m ρ (rowPeer c) .bar false).symm); unfold payOf; rw [rowPeer_rowPeer]
      isplitl [S2]
      · iexists f2; iexact S2
      iexists f3; iexact S3
    iapply (records_reached m ρ K (rowPeer c) .bar); iexact HR
  iintro HO
  iapply (Rounds.wp_signal 𝒱₀ ER (sched m ρ) (c : Thread nD τ) none (dst := (colPeer c : Thread nD τ)) (κ := K (colPeer c, .bar)) (r := 0)
      (d := true) (bar_duty m ρ (colPeer c) true) ((amount_cell m ρ (colPeer c) .bar true).trans (by decide)) () (debtB c) rfl)
    $$ [HO TBc S4]
  · isplitr; · iapply (records_inv m ρ K (colPeer c) .bar); iexact HR
    isplitl [HO]; · iexact HO
    isplitl [TBc]; · iexact TBc
    isplitl [S4]
    · iapply (Entails.of_eq (payload_cell m ρ (colPeer c) .bar true).symm); unfold payOf; rw [colPeer_colPeer]
      iexists f4; iexact S4
    iapply (records_reached m ρ K (colPeer c) .bar); iexact HR
  iintro HO
  -- the wait for both peers: their buffers come with it
  iapply (Rounds.wp_wait_rest_token 𝒱₀ ER (sched m ρ) (c : Thread nD τ) none (κ := K (c, .bar))
      (wpE_semWait_eq 𝒱₀ (c : Thread nD τ) none Set.univ) (Set.mem_univ _) () (O := debtB c) (W := W) (R := 0) (m := 0) (T := ∅)
      (by rw [expect_bar]; decide)) $$ [CB HO PB]
  · isplitr; · iapply (records_inv m ρ K c .bar); iexact HR
    isplitl [CB]; · iexact CB
    isplitl [HO]; · iexact HO
    isplitr; · iapply (mayWait c (semOf .bar) (lv_cell c .bar).le (above_debtB c)); iexact Hlev
    iexact PB
  iintro ⟨HO, PB, -, Hpay⟩
  ihave Hp := (Entails.of_eq (rest_bar m ρ c)) $$ Hpay
  unfold payOf
  icases Hp with ⟨⟨⟨%g2, D2⟩, ⟨%g3, D3⟩⟩, ⟨%g4, D4⟩⟩
  imod (Rounds.cell_close ER (sched m ρ) (Set.mem_univ (K (c, .bar))) (fun h => h) (R := 0 + 1) (duties_later m ρ (cell c .bar))) $$ [PB] with PB
  · isplitr; · iapply (records_inv m ρ K c .bar); iexact HR
    iexact PB
  -- half of B is cast and sent
  iapply (wp_load 𝒱₀ (c : Thread nD τ) none Set.univ (m := bM) (Finset.subset_univ _)) $$ Hb; iintro Hb
  iapply (wp_load 𝒱₀ (c : Thread nD τ) none Set.univ (m := bSendM) (Finset.subset_univ _)) $$ S1; iintro S1
  iapply (wp_store 𝒱₀ (c : Thread nD τ) none Set.univ (m := bSendM) (r := wholeHalf) (Mk := Finset.univ) (Finset.subset_univ _)) $$ S1; iintro S1
  rw [write_half]
  ihave S1 := (Entails.of_eq (whole_pts cc0_scratch1 c fullShare (bHalf m ρ c)).symm) $$ S1
  ihave D3 := (Entails.of_eq (whole_pts cc0_scratch3 (rowPeer c) fullShare g3).symm) $$ D3
  iapply (wp_send m ρ K c (rowPeer c) _ (dev3_eq c) .bSend .bRecv (Finset.mem_singleton_self _) (Finset.mem_singleton_self _)
      (src := bSendM) (dst := bDirM) halfCredit rfl rfl rfl (q := fullShare) (fs := bHalf m ρ c) (fd := g3)
      (Entails.of_eq (whole_pts cc0_scratch1 c fullShare (bHalf m ρ c)))
      (by rw [land_direct]; exact Entails.of_eq (whole_pts cc0_scratch3 (rowPeer c) fullShare _)) (debtB c) (debt0 c) rfl) $$ [S1 D3 HO TbS TbR]
  · isplitr; · iexact HR
    isplitl [S1]; · iexact S1
    isplitl [D3]; · iexact D3
    isplitl [HO]; · iexists _; iexact HO
    isplitl [TbS]; · iexact TbS
    iexact TbR
  iintro ⟨CbS, HO⟩
  -- A is cast and sent chunk by chunk
  ihave S0 := (Entails.of_eq ((chunks_send c f0).trans (bigSep_four _))) $$ S0
  icases S0 with ⟨S00, S01, S02, S03⟩
  ihave D2 := (Entails.of_eq ((chunks_recv (rowPeer c) g2).trans (bigSep_four _))) $$ D2
  icases D2 with ⟨D0, D1, D2, D3⟩
  iapply (wp_cast_chunk m ρ c 0 f0) $$ [Ha S00]
  · isplitl [Ha] <;> iassumption
  iintro ⟨Ha, S00⟩
  iapply (wp_send m ρ K c (rowPeer c) _ (dev4_eq c) (.aSend 0) (.aRecv 0) (Finset.mem_singleton_self _) (Finset.mem_singleton_self _)
      (src := chunkM aSendM 0) (dst := chunkM aRecvM 0) (chunkCredit 0) rfl rfl rfl (q := fullShare) (fs := aCast m ρ c) (fd := g2)
      (BI.Entails.refl _) (Entails.of_eq (land_chunk m ρ c 0 g2)) (debt0 c) (debt1 c) rfl) $$ [S00 D0 HO TaS0 TaR0]
  · isplitr; · iexact HR
    isplitl [S00]; · iexact S00
    isplitl [D0]; · iexact D0
    isplitl [HO]; · iexact HO
    isplitl [TaS0]; · iexact TaS0
    iexact TaR0
  iintro ⟨CaS0, HO⟩
  iapply (wp_cast_chunk m ρ c 1 f0) $$ [Ha S01]
  · isplitl [Ha] <;> iassumption
  iintro ⟨Ha, S01⟩
  iapply (wp_send m ρ K c (rowPeer c) _ (dev5_eq c) (.aSend 1) (.aRecv 1) (Finset.mem_singleton_self _) (Finset.mem_singleton_self _)
      (src := chunkM aSendM 1) (dst := chunkM aRecvM 1) (chunkCredit 1) rfl rfl rfl (q := fullShare) (fs := aCast m ρ c) (fd := g2)
      (BI.Entails.refl _) (Entails.of_eq (land_chunk m ρ c 1 g2)) (debt1 c) (debt2 c) rfl) $$ [S01 D1 HO TaS1 TaR1]
  · isplitr; · iexact HR
    isplitl [S01]; · iexact S01
    isplitl [D1]; · iexact D1
    isplitl [HO]; · iexact HO
    isplitl [TaS1]; · iexact TaS1
    iexact TaR1
  iintro ⟨CaS1, HO⟩
  iapply (wp_cast_chunk m ρ c 2 f0) $$ [Ha S02]
  · isplitl [Ha] <;> iassumption
  iintro ⟨Ha, S02⟩
  iapply (wp_send m ρ K c (rowPeer c) _ (dev6_eq c) (.aSend 2) (.aRecv 2) (Finset.mem_singleton_self _) (Finset.mem_singleton_self _)
      (src := chunkM aSendM 2) (dst := chunkM aRecvM 2) (chunkCredit 2) rfl rfl rfl (q := fullShare) (fs := aCast m ρ c) (fd := g2)
      (BI.Entails.refl _) (Entails.of_eq (land_chunk m ρ c 2 g2)) (debt2 c) (debt3 c) rfl) $$ [S02 D2 HO TaS2 TaR2]
  · isplitr; · iexact HR
    isplitl [S02]; · iexact S02
    isplitl [D2]; · iexact D2
    isplitl [HO]; · iexact HO
    isplitl [TaS2]; · iexact TaS2
    iexact TaR2
  iintro ⟨CaS2, HO⟩
  iapply (wp_cast_chunk m ρ c 3 f0) $$ [Ha S03]
  · isplitl [Ha] <;> iassumption
  iintro ⟨Ha, S03⟩
  iapply (wp_send m ρ K c (rowPeer c) _ (dev7_eq c) (.aSend 3) (.aRecv 3) (Finset.mem_singleton_self _) (Finset.mem_singleton_self _)
      (src := chunkM aSendM 3) (dst := chunkM aRecvM 3) (chunkCredit 3) rfl rfl rfl (q := fullShare) (fs := aCast m ρ c) (fd := g2)
      (BI.Entails.refl _) (Entails.of_eq (land_chunk m ρ c 3 g2)) (debt3 c) (debtA c) rfl) $$ [S03 D3 HO TaS3 TaR3]
  · isplitr; · iexact HR
    isplitl [S03]; · iexact S03
    isplitl [D3]; · iexact D3
    isplitl [HO]; · iexact HO
    isplitl [TaS3]; · iexact TaS3
    iexact TaR3
  iintro ⟨CaS3, HO⟩
  -- the product of its own blocks
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (wp_load 𝒱₀ (c : Thread nD τ) none Set.univ (m := oM) (Finset.subset_univ _)) $$ Ho; iintro Ho
  iapply (wp_store 𝒱₀ (c : Thread nD τ) none Set.univ (m := oM) (r := Rect.unit (s := S2048x2048) ![0, 0] S2048x2048.size inb_S2048x2048_S2048x2048_0_0)
    (Mk := Finset.univ) (Finset.subset_univ _)) $$ Ho; iintro Ho
  rw [write_own]
  -- the half of B the row peer sent arrives, and is passed on from one half of its share
  iapply (wp_collect m ρ K c .bRecv (by decide) (wpE_waitDma2_eq 𝒱₀ (c : Thread nD τ) none Set.univ (dst := bDirM)) rfl (debtA c)) $$ [CbR HO PbR]
  · isplitr; · iexact HR
    isplitl [CbR]; · iexact CbR
    isplitl [HO]; · iexact HO
    isplitr; · iapply (mayWait c (semOf .bRecv) (lv_cell c .bRecv).le (above_debtA c)); iexact Hlev
    iexact PbR
  iintro ⟨HO, PbR, S3⟩
  unfold payOf
  ihave S3 := (pointsTo_share (PosShare.mem_left_op_right fullShare)).1 $$ S3
  icases S3 with ⟨S3L, S3R⟩
  ihave S3L := (Entails.of_eq (whole_pts cc0_scratch3 c fullShare.left (bDir m ρ c)).symm) $$ S3L
  ihave D4 := (Entails.of_eq (whole_pts cc0_scratch4 (colPeer c) fullShare g4).symm) $$ D4
  iapply (wp_send m ρ K c (colPeer c) _ (dev8_eq c) .fwdSend .fwdRecv (Finset.mem_singleton_self _) (Finset.mem_singleton_self _)
      (src := bDirM) (dst := bFwdM) halfCredit rfl rfl rfl (q := fullShare.left) (fs := bDir m ρ c) (fd := g4)
      (Entails.of_eq (whole_pts cc0_scratch3 c fullShare.left (bDir m ρ c)))
      (by rw [land_forward]; exact Entails.of_eq (whole_pts cc0_scratch4 (colPeer c) fullShare _)) (debtA c) 0 (zero_add _).symm) $$ [S3L D4 HO TfS TfR]
  · isplitr; · iexact HR
    isplitl [S3L]; · iexact S3L
    isplitl [D4]; · iexact D4
    isplitl [HO]; · iexact HO
    isplitl [TfS]; · iexact TfS
    iexact TfR
  iintro ⟨CfS, HO⟩
  -- the partial products, as A's chunks and B's forwarded half arrive
  iapply (wp_collect m ρ K c (.aRecv 0) (by decide) (wpE_waitDma2_eq 𝒱₀ (c : Thread nD τ) none Set.univ) rfl (0)) $$ [CaR0 HO PaR0]
  · isplitr; · iexact HR
    isplitl [CaR0]; · iexact CaR0
    isplitl [HO]; · iexact HO
    isplitr; · rw [MayWait_zero]; iempintro
    iexact PaR0
  iintro ⟨HO, PaR0, S20⟩
  unfold payOf
  iapply (wp_accumulate m ρ c 0 ![512 * ((0 : Fin 4)).val, 1024 * (c.val / 2)] (direct_inb c 0) bDirM fullShare.right (bDir m ρ c) (bDir m ρ c) (read_direct m ρ c) _ (k0_off2_eq c)) $$ [Ho S20 S3R]
  · isplitl [Ho]; · iexact Ho
    isplitl [S20] <;> iassumption
  iintro ⟨Ho, S20, S3R⟩
  iapply (wp_collect m ρ K c .fwdRecv (by decide) (wpE_waitDma2_eq 𝒱₀ (c : Thread nD τ) none Set.univ (dst := bFwdM)) rfl (0)) $$ [CfR HO PfR]
  · isplitr; · iexact HR
    isplitl [CfR]; · iexact CfR
    isplitl [HO]; · iexact HO
    isplitr; · rw [MayWait_zero]; iempintro
    iexact PfR
  iintro ⟨HO, PfR, S4⟩
  unfold payOf
  iapply (wp_accumulate m ρ c 0 ![512 * ((0 : Fin 4)).val, 1024 - 1024 * (c.val / 2)] (forward_inb c 0) bFwdM fullShare (bFwd m ρ c) (bFwd m ρ c) (read_forward m ρ c) _ (k0_off3_eq c)) $$ [Ho S20 S4]
  · isplitl [Ho]; · iexact Ho
    isplitl [S20] <;> iassumption
  iintro ⟨Ho, S20, S4⟩
  iapply (wp_collect m ρ K c (.aRecv 1) (by decide) (wpE_waitDma2_eq 𝒱₀ (c : Thread nD τ) none Set.univ) rfl (0)) $$ [CaR1 HO PaR1]
  · isplitr; · iexact HR
    isplitl [CaR1]; · iexact CaR1
    isplitl [HO]; · iexact HO
    isplitr; · rw [MayWait_zero]; iempintro
    iexact PaR1
  iintro ⟨HO, PaR1, S21⟩
  unfold payOf
  iapply (wp_accumulate m ρ c 1 ![512 * ((1 : Fin 4)).val, 1024 * (c.val / 2)] (direct_inb c 1) bDirM fullShare.right (bDir m ρ c) (bDir m ρ c) (read_direct m ρ c) _ (k0_off4_eq c)) $$ [Ho S21 S3R]
  · isplitl [Ho]; · iexact Ho
    isplitl [S21] <;> iassumption
  iintro ⟨Ho, S21, S3R⟩
  iapply (wp_accumulate m ρ c 1 ![512 * ((1 : Fin 4)).val, 1024 - 1024 * (c.val / 2)] (forward_inb c 1) bFwdM fullShare (bFwd m ρ c) (bFwd m ρ c) (read_forward m ρ c) _ (k0_off5_eq c)) $$ [Ho S21 S4]
  · isplitl [Ho]; · iexact Ho
    isplitl [S21] <;> iassumption
  iintro ⟨Ho, S21, S4⟩
  iapply (wp_collect m ρ K c (.aRecv 2) (by decide) (wpE_waitDma2_eq 𝒱₀ (c : Thread nD τ) none Set.univ) rfl (0)) $$ [CaR2 HO PaR2]
  · isplitr; · iexact HR
    isplitl [CaR2]; · iexact CaR2
    isplitl [HO]; · iexact HO
    isplitr; · rw [MayWait_zero]; iempintro
    iexact PaR2
  iintro ⟨HO, PaR2, S22⟩
  unfold payOf
  iapply (wp_accumulate m ρ c 2 ![512 * ((2 : Fin 4)).val, 1024 * (c.val / 2)] (direct_inb c 2) bDirM fullShare.right (bDir m ρ c) (bDir m ρ c) (read_direct m ρ c) _ (k0_off6_eq c)) $$ [Ho S22 S3R]
  · isplitl [Ho]; · iexact Ho
    isplitl [S22] <;> iassumption
  iintro ⟨Ho, S22, S3R⟩
  iapply (wp_accumulate m ρ c 2 ![512 * ((2 : Fin 4)).val, 1024 - 1024 * (c.val / 2)] (forward_inb c 2) bFwdM fullShare (bFwd m ρ c) (bFwd m ρ c) (read_forward m ρ c) _ (k0_off7_eq c)) $$ [Ho S22 S4]
  · isplitl [Ho]; · iexact Ho
    isplitl [S22] <;> iassumption
  iintro ⟨Ho, S22, S4⟩
  iapply (wp_collect m ρ K c (.aRecv 3) (by decide) (wpE_waitDma2_eq 𝒱₀ (c : Thread nD τ) none Set.univ) rfl (0)) $$ [CaR3 HO PaR3]
  · isplitr; · iexact HR
    isplitl [CaR3]; · iexact CaR3
    isplitl [HO]; · iexact HO
    isplitr; · rw [MayWait_zero]; iempintro
    iexact PaR3
  iintro ⟨HO, PaR3, S23⟩
  unfold payOf
  iapply (wp_accumulate m ρ c 3 ![512 * ((3 : Fin 4)).val, 1024 * (c.val / 2)] (direct_inb c 3) bDirM fullShare.right (bDir m ρ c) (bDir m ρ c) (read_direct m ρ c) _ (k0_off8_eq c)) $$ [Ho S23 S3R]
  · isplitl [Ho]; · iexact Ho
    isplitl [S23] <;> iassumption
  iintro ⟨Ho, S23, S3R⟩
  iapply (wp_accumulate m ρ c 3 ![512 * ((3 : Fin 4)).val, 1024 - 1024 * (c.val / 2)] (forward_inb c 3) bFwdM fullShare (bFwd m ρ c) (bFwd m ρ c) (read_forward m ρ c) _ (k0_off9_eq c)) $$ [Ho S23 S4]
  · isplitl [Ho]; · iexact Ho
    isplitl [S23] <;> iassumption
  iintro ⟨Ho, S23, S4⟩
  -- the copies it sent have left
  iapply (wp_collect m ρ K c .bSend (by decide) (wpE_waitDma2_eq 𝒱₀ (c : Thread nD τ) none Set.univ (dst := bSendM)) rfl (0)) $$ [CbS HO PbS]
  · isplitr; · iexact HR
    isplitl [CbS]; · iexact CbS
    isplitl [HO]; · iexact HO
    isplitr; · rw [MayWait_zero]; iempintro
    iexact PbS
  iintro ⟨HO, PbS, S1⟩
  iapply (wp_collect m ρ K c .fwdSend (by decide) (wpE_waitDma2_eq 𝒱₀ (c : Thread nD τ) none Set.univ (dst := bDirM)) rfl (0)) $$ [CfS HO PfS]
  · isplitr; · iexact HR
    isplitl [CfS]; · iexact CfS
    isplitl [HO]; · iexact HO
    isplitr; · rw [MayWait_zero]; iempintro
    iexact PfS
  iintro ⟨HO, PfS, S3L⟩
  iapply (wp_collect m ρ K c (.aSend 0) (by decide) (wpE_waitDma2_eq 𝒱₀ (c : Thread nD τ) none Set.univ (dst := chunkM aSendM 0)) rfl (0)) $$ [CaS0 HO PaS0]
  · isplitr; · iexact HR
    isplitl [CaS0]; · iexact CaS0
    isplitl [HO]; · iexact HO
    isplitr; · rw [MayWait_zero]; iempintro
    iexact PaS0
  iintro ⟨HO, PaS0, S00⟩
  iapply (wp_collect m ρ K c (.aSend 1) (by decide) (wpE_waitDma2_eq 𝒱₀ (c : Thread nD τ) none Set.univ (dst := chunkM aSendM 1)) rfl (0)) $$ [CaS1 HO PaS1]
  · isplitr; · iexact HR
    isplitl [CaS1]; · iexact CaS1
    isplitl [HO]; · iexact HO
    isplitr; · rw [MayWait_zero]; iempintro
    iexact PaS1
  iintro ⟨HO, PaS1, S01⟩
  iapply (wp_collect m ρ K c (.aSend 2) (by decide) (wpE_waitDma2_eq 𝒱₀ (c : Thread nD τ) none Set.univ (dst := chunkM aSendM 2)) rfl (0)) $$ [CaS2 HO PaS2]
  · isplitr; · iexact HR
    isplitl [CaS2]; · iexact CaS2
    isplitl [HO]; · iexact HO
    isplitr; · rw [MayWait_zero]; iempintro
    iexact PaS2
  iintro ⟨HO, PaS2, S02⟩
  iapply (wp_collect m ρ K c (.aSend 3) (by decide) (wpE_waitDma2_eq 𝒱₀ (c : Thread nD τ) none Set.univ (dst := chunkM aSendM 3)) rfl (0)) $$ [CaS3 HO PaS3]
  · isplitr; · iexact HR
    isplitl [CaS3]; · iexact CaS3
    isplitl [HO]; · iexact HO
    isplitr; · rw [MayWait_zero]; iempintro
    iexact PaS3
  iintro ⟨HO, PaS3, S03⟩
  unfold payOf
  rw [wp_ret]; imodintro
  iapply Hk
  unfold bodyPost Φ₁ scratch
  rw [bigSep_slots]
  ihave S3 := (pointsTo_share (PosShare.mem_left_op_right fullShare)).2 $$ [S3L S3R]
  · isplitl [S3L] <;> iassumption
  isplitr [HO Ha Hb Ho]
  · isplitl [S00 S01 S02 S03 S1 S20 S21 S22 S23 S3 S4]
    · isplitl [S00 S01 S02 S03]
      · iexists (aCast m ρ c)
        iapply (Entails.of_eq ((chunks_send c (aCast m ρ c)).trans (bigSep_four _)).symm)
        isplitl [S00]; · iexact S00
        isplitl [S01]; · iexact S01
        isplitl [S02] <;> iassumption
      isplitl [S1]; · iexists _; iexact S1
      isplitl [S20 S21 S22 S23]
      · iexists (aGot m ρ c)
        iapply (Entails.of_eq ((chunks_recv c (aGot m ρ c)).trans (bigSep_four _)).symm)
        isplitl [S20]; · iexact S20
        isplitl [S21]; · iexact S21
        isplitl [S22] <;> iassumption
      isplitl [S3]; · iexists _; iexact S3
      iexists _; iexact S4
    isplitl [PB]; · iexact PB
    isplitl [PaS0]; · iexact PaS0
    isplitl [PaS1]; · iexact PaS1
    isplitl [PaS2]; · iexact PaS2
    isplitl [PaS3]; · iexact PaS3
    isplitl [PaR0]; · iexact PaR0
    isplitl [PaR1]; · iexact PaR1
    isplitl [PaR2]; · iexact PaR2
    isplitl [PaR3]; · iexact PaR3
    isplitl [PbS]; · iexact PbS
    isplitl [PbR]; · iexact PbR
    isplitl [PfS]; · iexact PfS
    iexact PfR
  isplitl [HO]; · iexact HO
  isplitl [Ha]; · iexact Ha
  isplitl [Hb]; · iexact Hb
  unfold outAt addRow
  iexact Ho

/-- The body's precondition and postcondition as the pipeline states them. -/
def bodyPre' (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost' (c : Dev nD) : sProp 𝕄 :=
  iprop(Φ₁ c ∗ (dats m ρ 0 c).owesAt () t0_0.succ
    ∗ stg c cc0_stg0_0 (aStg m ρ c) ∗ stg c cc0_stg1_0 (bStg m ρ c) ∗ stg c cc0_stg2_0 (outAt m ρ c))

theorem before_a (c : Dev nD) (d) : (dats m ρ 0 c).before (0 : Fin 3) t0_0 d = aStg m ρ c := by
  unfold Dat.before; rw [if_pos (fetch0_0 t0_0)]; rfl
theorem before_b (c : Dev nD) (d) : (dats m ρ 0 c).before (1 : Fin 3) t0_0 d = bStg m ρ c := by
  unfold Dat.before; rw [if_pos (fetch0_1 t0_0)]; rfl

theorem after_a (c : Dev nD) (t) : (dats m ρ 0 c).after (0 : Fin 3) t = aStg m ρ c := by dsimp only [dats]
theorem after_b (c : Dev nD) (t) : (dats m ρ 0 c).after (1 : Fin 3) t = bStg m ρ c := by dsimp only [dats]
theorem after_o (c : Dev nD) (t) : (dats m ρ 0 c).after (2 : Fin 3) t = outAt m ρ c := by dsimp only [dats]
theorem phi_before (c : Dev nD) : (dats m ρ 0 c).Φ t0_0.castSucc = Φ₀ m ρ c := rfl
theorem phi_after (c : Dev nD) : (dats m ρ 0 c).Φ t0_0.succ = Φ₁ c := rfl

theorem pre_intro (c : Dev nD) : bodyPre' m ρ c ⊢ iprop(∃ K, bodyPre m ρ K c) := by
  unfold bodyPre' Φ₀ startOf bodyPre Dat.owesAt Pipeline.owesWithin
  rw [show (dats m ρ 0 c).owed t0_0.castSucc = debtAll c from rfl]
  iintro ⟨⟨⟨⟨%K, Hg⟩, Hc, Hl⟩, Hs⟩, ⟨%W, %hW, HO⟩, ⟨%d0, %x0, %h0, H0⟩, ⟨%d1, %x1, %h1, H1⟩, ⟨%d2, %x2, %h2, H2⟩⟩
  rw [before_a] at h0
  rw [before_b] at h1
  subst h0 h1
  iexists K
  isplitl [Hg Hc Hl Hs]
  · isplitl [Hg]; · iexact Hg
    isplitl [Hc]; · iexact Hc
    isplitl [Hl] <;> iassumption
  isplitl [HO]; · iexists W; iexact HO
  isplitl [H0]; · iexact H0
  isplitl [H1]; · iexact H1
  iexists x2; iexact H2

theorem post_intro (c : Dev nD) : bodyPost m ρ c ⊢ bodyPost' m ρ c := by
  unfold bodyPost bodyPost' Dat.owesAt Pipeline.owesWithin
  rw [show (dats m ρ 0 c).owed t0_0.succ = 0 from rfl]
  iintro ⟨HΦ, ⟨%W, HO⟩, H0, H1, H2⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 4000 in
/-- What the pipeline asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  rw [after_a, after_b, after_o, phi_before, phi_after]
  show _ ⊢ wp frame (wpE (defs₀ (F := F)) 𝒱₀ c none) Set.univ
    (cc0_body aM (Memref.isWhole_whole _) bM (Memref.isWhole_whole _) oM (Memref.isWhole_whole _)
      aSendM (Memref.isWhole_whole _) bSendM (Memref.isWhole_whole _) aRecvM (Memref.isWhole_whole _)
      bDirM (Memref.isWhole_whole _) bFwdM (Memref.isWhole_whole _)
      cc0_scratch5 cc0_scratch6 cc0_scratch7 cc0_scratch8 cc0_scratch9 cc0_scratch10) _
  change bodyPre' m ρ c ⊢ wp frame (wpE (defs₀ (F := F)) 𝒱₀ c none) Set.univ _ (fun _ => bodyPost' m ρ c)
  iintro H
  ihave H := (pre_intro m ρ c) $$ H
  icases H with ⟨%K, H⟩
  iapply (sound_body m ρ K c fun _ => bodyPost' m ρ c)
  isplitl [H]; · iexact H
  iintro H
  iapply (post_intro m ρ c); iexact H

end Body

end Cert.MatmulProof

end
-- ==== Proof.Launch.lean ====
/-
The launch: the protocol's ghost state is made and dealt out, each device runs its body, and every run of the program ends
with the result blocks computed, the arguments unchanged and every semaphore counter at zero.
-/
module

public import proofs.«01_k».proof.Proof.Body
public import Idealize.ShloMosaic.Lib.Pipeline.CollectiveSegs

@[expose] public section

noncomputable section

namespace Cert.MatmulProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores the program owns -/

/-- The twelve copy semaphores, in the order of their slots. -/
abbrev osem : Fin 12 → SemLoc sig :=
  ![semOf (.aSend 0), semOf (.aSend 1), semOf (.aSend 2), semOf (.aSend 3), semOf (.aRecv 0), semOf (.aRecv 1), semOf (.aRecv 2), semOf (.aRecv 3),
    semOf .bSend, semOf .bRecv, semOf .fwdSend, semOf .fwdRecv]

theorem ownSemFacts : Pipeline.OwnSemFacts cfg0.spec osem := by decide

theorem share_eq (c : Dev nD) (w : Fin cfg0.W) : (dats m ρ 0 c).share w = fullShare := by unfold Dat.share; split <;> rfl

theorem ownSems0_eq (c : Dev nD) : (Pipeline.ownSems0 (Ix := Unit) (Name := ℕ) (U := UU) (Lvl := ℕ) (Val := Elt F) (τ := τ) osem c : sProp 𝕄)
    = iprop(semVal (cell c (.aSend 0)) 0 ∗ semVal (cell c (.aSend 1)) 0 ∗ semVal (cell c (.aSend 2)) 0 ∗ semVal (cell c (.aSend 3)) 0
        ∗ semVal (cell c (.aRecv 0)) 0 ∗ semVal (cell c (.aRecv 1)) 0 ∗ semVal (cell c (.aRecv 2)) 0 ∗ semVal (cell c (.aRecv 3)) 0
        ∗ semVal (cell c .bSend) 0 ∗ semVal (cell c .bRecv) 0 ∗ semVal (cell c .fwdSend) 0 ∗ semVal (cell c .fwdRecv) 0) := by
  rw [Pipeline.ownSems0_eq_of_list c osem [0, 1, 2, 3, 4, 5, 6, 7, 8, 9, 10, 11] (by decide) (by decide)]; rfl
theorem unscopedSems0_eq (c : Dev nD) : (unscopedSems0 c : sProp 𝕄) = semVal (cell c .bar) 0 := by
  unfold unscopedSems0; rw [bigSep_eq_bigSepL_of_eq [semOf .bar] (by decide) (by decide)]; rfl

/-- The barrier semaphore and those twelve are the thirteen slots. -/
theorem sems_eq (c : Dev nD) :
    (bigSep Finset.univ fun k : Slot => semVal (cell c k) 0 : sProp 𝕄)
      = iprop(unscopedSems0 c ∗ Pipeline.ownSems0 (Ix := Unit) (Name := ℕ) (U := UU) (Lvl := ℕ) (Val := Elt F) (τ := τ) osem c) := by
  rw [bigSep_slots, unscopedSems0_eq, ownSems0_eq]

/-! ## The ghost state at launch -/

/-- Every cell. -/
def allCells : Finset (GSem nD τ sig) :=
  Finset.univ.map ⟨fun p : Dev nD × Slot => cell p.1 p.2, fun p q h => Prod.ext (cell_inj h).1 (cell_inj h).2⟩

/-- Every duty's token: `none` a barrier's second duty, `some k` the first duty of slot k. -/
def allToks : Finset (GSem nD τ sig × ℕ × Bool) :=
  Finset.univ.map ⟨fun p : Dev nD × Option Slot => (cell p.1 (p.2.getD .bar), 0, p.2.isNone), fun p q h => by
    obtain ⟨c, s⟩ := p
    obtain ⟨d, t⟩ := q
    have h1 := cell_inj (congrArg Prod.fst h)
    have h2 : s.isNone = t.isNone := congrArg (fun x : GSem nD τ sig × ℕ × Bool => x.2.2) h
    have h3 : s.getD .bar = t.getD .bar := h1.2
    refine Prod.ext h1.1 ?_
    cases s <;> cases t <;> simp_all⟩

/-- The launch's element of both copies of the algebra. -/
def u₀ : UU := (initOf (Pipeline.cells cfgs cellOf_inj) (Pipeline.launchToks cfgs cellOf_inj), initOf allCells allToks)

/-- What of it is device c's before the invariants are made. -/
def dealt (c : Dev nD) : sProp 𝕄 :=
  iprop((bigSep Finset.univ fun k : Slot => roundState ER (sched m ρ) (cell c k) 0)
    ∗ (bigSep Finset.univ fun k : Slot => atPos ER (cell c k) 0 ∅ 0) ∗ (bigSep Finset.univ fun k : Slot => reached ER (cell c k) 0)
    ∗ bigSep Finset.univ fun t : Option Slot => tokAt c t)

/-- What it holds of it when its body starts. -/
def held (c : Dev nD) : sProp 𝕄 := iprop(∃ K, ghost m ρ K c)

theorem over_cells (Φ : GSem nD τ sig → sProp 𝕄) :
    bigSep allCells Φ = bigSep Finset.univ fun c : Dev nD => bigSep Finset.univ fun k : Slot => Φ (cell c k) := by
  unfold allCells; rw [bigSep_map, bigSep_univ_prod]; rfl
theorem over_toks :
    bigSep allToks (fun x => (dutyTok ER x.1 x.2.1 x.2.2 : sProp 𝕄)) = bigSep Finset.univ fun c : Dev nD => bigSep Finset.univ fun t : Option Slot => tokAt c t := by
  unfold allToks; rw [bigSep_map, bigSep_univ_prod]; rfl

theorem fund_all : BI.own (ER (initOf allCells allToks)) ⊢ (|==> bigSep Finset.univ (dealt m ρ) : sProp 𝕄) := by
  iintro H
  imod (Rounds.fund ER (sched m ρ) allCells allToks) $$ H with ⟨Hst, Hr, Hat, Htok⟩
  imodintro
  unfold dealt
  rw [bigSep_sep', bigSep_sep', bigSep_sep']
  isplitl [Hst]; · iapply (Entails.of_eq (over_cells fun g => roundState ER (sched m ρ) g 0)); iexact Hst
  isplitl [Hat]; · iapply (Entails.of_eq (over_cells (F := F) fun g => atPos ER g 0 ∅ 0)); iexact Hat
  isplitl [Hr]; · iapply (Entails.of_eq (over_cells (F := F) fun g => reached ER g 0)); iexact Hr
  iapply (Entails.of_eq (over_toks (F := F))); iexact Htok

/-- One device's counters and round states become the invariants of its cells. -/
theorem make_invs (c : Dev nD) :
    iprop((bigSep Finset.univ fun k : Slot => semVal (cell c k) 0) ∗ bigSep Finset.univ fun k : Slot => roundState ER (sched m ρ) (cell c k) 0)
      ⊢ (|={Set.univ}=> bigSep Finset.univ fun k : Slot => iprop(∃ κ : ℕ, cellInv ER (sched m ρ) κ (cell c k)) : sProp 𝕄) := by
  rw [← bigSep_sep']
  exact (bigSep_mono fun k _ => (Rounds.body_intro ER (sched m ρ) (cell c k)).trans inv_alloc).trans (bigSep_fupd _ _)

theorem alloc_one (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Slot => iprop(∃ κ : ℕ, cellInv ER (sched m ρ) κ (cell c k)))
          ∗ (bigSep Finset.univ fun k : Slot => atPos ER (cell c k) 0 ∅ 0) ∗ (bigSep Finset.univ fun k : Slot => reached ER (cell c k) 0)
          ∗ bigSep Finset.univ fun t : Option Slot => tokAt c t) := by
  unfold dealt
  iintro ⟨Hos, Hus, Hst, Hrest⟩
  imod (make_invs m ρ c) $$ [Hos Hus Hst] with Hi
  · isplitr [Hst]
    · iapply (Entails.of_eq (sems_eq (F := F) c).symm)
      isplitl [Hus] <;> iassumption
    iexact Hst
  imodintro
  isplitl [Hi] <;> iassumption

/-- The order of two indices is free. -/
theorem bigSep_swap {α β : Type} [Fintype α] [Fintype β] (Φ : α → β → sProp 𝕄) :
    (bigSep Finset.univ fun a => bigSep Finset.univ fun b => Φ a b) = bigSep Finset.univ fun b => bigSep Finset.univ fun a => Φ a b := by
  rw [← bigSep_univ_prod (fun p : α × β => Φ p.1 p.2), bigSep_univ_equiv (Equiv.prodComm β α), bigSep_univ_prod]
  rfl

/-- Every token goes to the device that pays with it: for each kind of duty the payees are a permutation of the devices. -/
theorem toks_dealt :
    (bigSep Finset.univ fun c : Dev nD => bigSep Finset.univ fun t : Option Slot => (tokAt c t : sProp 𝕄))
      = bigSep Finset.univ fun c : Dev nD => payToks c := by
  unfold payToks
  rw [bigSep_swap, bigSep_swap fun (c : Dev nD) (t : Option Slot) => (tokAt (payee t c) t : sProp 𝕄)]
  exact bigSep_congr fun t _ => bigSep_univ_equiv (payee t) fun c : Dev nD => (tokAt c t : sProp 𝕄)

theorem share_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

theorem deal :
    (bigSep Finset.univ fun c : Dev nD => iprop((bigSep Finset.univ fun k : Slot => iprop(∃ κ : ℕ, cellInv ER (sched m ρ) κ (cell c k)))
          ∗ (bigSep Finset.univ fun k : Slot => atPos ER (cell c k) 0 ∅ 0) ∗ (bigSep Finset.univ fun k : Slot => reached ER (cell c k) 0)
          ∗ bigSep Finset.univ fun t : Option Slot => tokAt c t) : sProp 𝕄)
      ⊢ bigSep Finset.univ (held m ρ) := by
  rw [bigSep_sep', bigSep_sep', bigSep_sep', toks_dealt,
    ← bigSep_univ_prod (fun p : Dev nD × Slot => iprop(∃ κ : ℕ, cellInv ER (sched m ρ) κ (cell p.1 p.2))),
    ← bigSep_univ_prod (fun p : Dev nD × Slot => (reached ER (cell p.1 p.2) 0 : sProp 𝕄))]
  iintro ⟨HI, Hat, #HR, Htok⟩
  ihave HK := (BI.bigSep_exists_pi Finset.univ (fun (p : Dev nD × Slot) (κ : ℕ) => (cellInv ER (sched m ρ) κ (cell p.1 p.2) : sProp 𝕄))) $$ HI
  icases HK with ⟨%K, #HI⟩
  iapply (share_records (R := records m ρ K)
    (Φ := fun c : Dev nD => iprop((bigSep Finset.univ fun k : Slot => atPos ER (cell c k) 0 ∅ 0) ∗ payToks c)) fun c _ => by
      unfold held ghost
      iintro H
      iexists K; iexact H)
  isplitr
  · unfold records; isplitr
    · iexact HI
    iexact HR
  rw [bigSep_sep']
  isplitl [Hat] <;> iassumption

theorem glob :
    (bigSep Finset.univ fun c => iprop(Pipeline.ownSems0 (Ix := Unit) (Name := ℕ) (U := UU) (Lvl := ℕ) (Val := Elt F) (τ := τ) osem c ∗ unscopedSems0 c ∗ dealt m ρ c) : sProp 𝕄)
      ⊢ |={Set.univ}=> bigSep Finset.univ (held m ρ) :=
  ((bigSep_mono fun c _ => alloc_one m ρ c).trans (bigSep_fupd _ _)).trans (BI.fupd_mono (deal m ρ))

/-! ## The credit at launch -/

/-- What all devices together owe a slot at launch. -/
def dueOf : Slot → ℕ
  | .bar => 2
  | .aRecv i => chunkCredit i
  | .bRecv => halfCredit
  | .fwdRecv => halfCredit
  | _ => 0

/-- One entry of the debts, summed over the devices that owe it. -/
theorem sum_entry (e : Dev nD ≃ Dev nD) (c : Dev nD) (k l : Slot) (n : ℕ) :
    (∑ d : Dev nD, (tallyAt (cell (e d) l) () n : CellTallies nD τ sig Unit) (cell c k) ()) = if k = l then n else 0 := by
  by_cases h : k = l
  · subst h
    rw [if_pos rfl, Finset.sum_congr rfl fun d _ => show _ = if d = e.symm c then n else 0 from ?_, Finset.sum_ite_eq', if_pos (Finset.mem_univ _)]
    rw [tallyAt_apply]
    by_cases hd : d = e.symm c
    · subst hd; rw [Equiv.apply_symm_apply, if_pos ⟨rfl, rfl⟩, if_pos rfl]
    · rw [if_neg fun h' => hd (by rw [(cell_inj h'.1).1, Equiv.symm_apply_apply]), if_neg hd]
  · rw [if_neg h]
    exact Finset.sum_eq_zero fun d _ => by rw [tallyAt_apply, if_neg fun h' => h (cell_inj h'.1).2]

theorem sum_debts (c : Dev nD) (k : Slot) : (∑ d : Dev nD, debtAll d (cell c k) ()) = dueOf k := by
  have hr (l : Slot) (n : ℕ) := sum_entry rowSwap c k l n
  have hc (l : Slot) (n : ℕ) := sum_entry colSwap c k l n
  have er (d : Dev nD) : rowSwap d = rowPeer d := rfl
  have ec (d : Dev nD) : colSwap d = colPeer d := rfl
  simp only [er] at hr
  simp only [ec] at hc
  simp only [debtAll, debtS, debtB, debt0, debt1, debt2, debt3, debtA, Pi.add_apply, Finsupp.add_apply, Finset.sum_add_distrib, hr, hc]
  cases k with
  | aRecv i => fin_cases i <;> simp [dueOf]
  | _ => simp [dueOf]

theorem launch_cell (c : Dev nD) (k : Slot) :
    tallyOn (cell c k) (launchCredit (Pipeline.owing debtAll) 0 (cell c k)) = (tallyAt (cell c k) () (dueOf k) : CellTallies nD τ sig Unit) := by
  unfold tallyAt; refine congrArg _ (Finsupp.ext fun u => ?_); cases u
  rw [Pipeline.launchCredit_owing, Finsupp.single_eq_same, sum_debts]

theorem creds_intro (c : Dev nD) : (Pipeline.launchCred debtAll c : sProp 𝕄) ⊢ creds c := by
  have h : (Pipeline.launchCred debtAll c : sProp 𝕄) ⊢ bigSep Finset.univ fun k : Slot => cred (tallyAt (cell c k) () (dueOf k)) := by
    unfold Pipeline.launchCred
    refine (bigSep_subset (t := Finset.univ.map ⟨semOf, semOf_injective⟩) (Finset.subset_univ _)).trans ?_
    rw [bigSep_map]
    exact Entails.of_eq (bigSep_congr fun k _ => congrArg cred (launch_cell c k))
  refine h.trans ?_
  unfold creds
  rw [bigSep_slots, bigSep_four]
  iintro ⟨HB, -, -, -, -, H0, H1, H2, H3, -, Hb, -, Hf⟩
  isplitl [HB]; · iexact HB
  isplitl [Hb]; · iexact Hb
  isplitl [Hf]; · iexact Hf
  isplitl [H0]; · iexact H0
  isplitl [H1]; · iexact H1
  isplitl [H2]; · iexact H2
  iexact H3

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred debtAll c ∗ prngReg c (ρ c) ∗ held m ρ c)
      ⊢ |={Set.univ}=> iprop(startOf m ρ c ∗ emp) := by
  unfold startOf held
  iintro ⟨-, Hlev, Hcr, -, HG⟩
  ihave Hc := (creds_intro (F := F) c) $$ Hcr
  imodintro
  isplitl
  · isplitl [HG]; · iexact HG
    isplitl [Hc] <;> iassumption
  iempintro

theorem phi0_intro (c : Dev nD) :
    iprop(startOf m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ (n := 0) (by fin_cases w <;> fin_cases s <;> exact Nat.le_of_eq rfl) (by
      rcases t with ⟨_ | _, ht⟩
      · exact above_debtAll c
      · exact above_zero 0)

/-! ## The run -/

/-- The arrays when the program ends. -/
def finalA (c : Dev nD) (w : Fin cfg0.W) : Buf (Elt F) ((cfg0.win w).arr.view.loc (c : Thread nD τ)) := (dats m ρ 0 c).arrAt w cfg0.N

def arraysDone : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, every fair run of the program on the four devices ends, the arrays at the
    contents computed and every counter at zero. -/
theorem run_main : θ_run defs (onTc (τ := τ) (main (F := F))) (start₀ m ρ) (fun r => arraysDone m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := debtAll) (howed₀ := fun _ => rfl) (howedN := fun _ => rfl)
    (L := L) (lv := lv) (hL := L_of_ne) (hwaits := waits m ρ)
    (G := dealt m ρ) (G' := held m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := startOf m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays are as they were. -/
theorem finalA_a (c : Dev nD) : finalA m ρ c (0 : Fin 3) = (start₀ m ρ).mem (win0_0.arr.view.loc (c : Thread nD τ)) :=
  (dats (F := F) m ρ 0 c).arrAt_in (0 : Fin 3) rfl _
theorem finalA_b (c : Dev nD) : finalA m ρ c (1 : Fin 3) = (start₀ m ρ).mem (win0_1.arr.view.loc (c : Thread nD τ)) :=
  (dats (F := F) m ρ 0 c).arrAt_in (1 : Fin 3) rfl _

end Cert.MatmulProof

end
-- ==== Proof.Value.lean ====
/-
The value: at exact arithmetic the block each device ends with is its block of rows of the product of the whole arrays. Each
device adds, to the product of its own blocks, the product of the blocks it was sent; the two are the two halves of the sum
over the contracted coordinate.
-/
module

public import proofs.«01_k».proof.Proof.Launch
public import Idealize.ShloMosaic.Lib.MatmulPlain
public import Idealize.ShloMosaic.Lib.StackMember
public import Idealize.ShloMosaic.Lib.WritesUnit
public import Idealize.ShloMosaic.Lib.LayoutAt

@[expose] public section

noncomputable section

namespace Cert.MatmulProof

open Cert.KernelIdeal Cert.KernelIdeal.Gen

open Idealize.ShloMosaic
open Idealize.ShloMosaic.TcCoe
open Idealize.ShloMosaic.ValueIdx
open scoped BigOperators

/-! ## The two products at an entry -/

theorem own_product (a : FVec Ideal S2048x1024 .f32) (b : FVec Ideal S1024x2048 .f32) (p q : Fin 2048) :
    k0_pay6 (F := Ideal) a b (ix2 p q) = ∑ k : Fin 1024, a (ix2 p k) * b (ix2 k q) := by
  unfold k0_pay6
  rw [shapeCast_self, shapeCast_self]
  refine (Ideal.matmul_plain_apply none a b _ p q).trans ?_
  rw [show (constant (F := Ideal) S2048x2048 .f32 0x00000000#32) (ix2 p q) = 0 from Ideal.ofBits_zero_f32, zero_add]

theorem chunk_product (v : FVec Ideal S512x1024 .f32) (a : FVec Ideal S512x1024 .bf16) (b : FVec Ideal S1024x1024 .bf16) (r : Fin 512) (q : Fin 1024) :
    k0_pay9 (F := Ideal) v a b (ix2 r q) = v (ix2 r q) + ∑ k : Fin 1024, a (ix2 r k) * b (ix2 k q) := by
  unfold k0_pay9
  rw [shapeCast_self]
  refine congrArg (v (ix2 r q) + ·) ((Ideal.matmul_plain_apply none a b _ r q).trans ?_)
  rw [show (constant (F := Ideal) S512x1024 .f32 0x00000000#32) (ix2 r q) = 0 from Ideal.ofBits_zero_f32, zero_add]

/-! ## One accumulation at an entry -/

/-- Inside the window the product is added. -/
theorem addInto_hit (off : Fin 2 → Nat) (inb : ∀ j, off j + S512x1024.size j ≤ S2048x2048.size j)
    (a : FVec Ideal S512x1024 .bf16) (b : FVec Ideal S1024x1024 .bf16) (f : FVec Ideal S2048x2048 .f32) (p q : Fin 2048) (r : Fin 512) (t : Fin 1024)
    (hp : p.val = off 0 + r.val) (hq : q.val = off 1 + t.val) :
    (addInto (F := Ideal) off inb a b f : FVec Ideal S2048x2048 .f32) (ix2 p q) = f (ix2 p q) + ∑ k : Fin 1024, a (ix2 r k) * b (ix2 k t) := by
  have hx : ((Rect.unit (s := S2048x2048) off S512x1024.size inb).emb (ix2 r t) : S2048x2048.Idx) = ix2 p q := by
    funext j
    apply Fin.ext
    match j with
    | ⟨0, _⟩ => show off 0 + 1 * r.val = p.val; omega
    | ⟨1, _⟩ => show off 1 + 1 * t.val = q.val; omega
  unfold addInto
  refine (congrArg _ hx.symm).trans ((View.write_emb_of_mem (v := oM.access (Rect.unit (s := S2048x2048) off S512x1024.size inb)) (Val := Elt Ideal) f _
    (Finset.mem_univ (ix2 r t))).trans ?_)
  refine (chunk_product _ a b r t).trans (congrArg (· + _) ?_)
  exact congrArg f hx

/-- Outside it nothing changes. -/
theorem addInto_miss (off : Fin 2 → Nat) (inb : ∀ j, off j + S512x1024.size j ≤ S2048x2048.size j)
    (a : FVec Ideal S512x1024 .bf16) (b : FVec Ideal S1024x1024 .bf16) (f : FVec Ideal S2048x2048 .f32) (p q : Fin 2048)
    (h : (p.val < off 0 ∨ off 0 + 512 ≤ p.val) ∨ (q.val < off 1 ∨ off 1 + 1024 ≤ q.val)) :
    (addInto (F := Ideal) off inb a b f : FVec Ideal S2048x2048 .f32) (ix2 p q) = f (ix2 p q) := by
  unfold addInto
  refine View.write_of_not_mem (v := oM.access (Rect.unit (s := S2048x2048) off S512x1024.size inb)) (Val := Elt Ideal) f _ Finset.univ fun hm => ?_
  obtain ⟨x, -, hx⟩ := Finset.mem_map.mp hm
  have h0 : off 0 + 1 * (x (0 : Fin 2)).val = p.val := congrArg (fun y : S2048x2048.Idx => (y 0).val) hx
  have h1 : off 1 + 1 * (x (1 : Fin 2)).val = q.val := congrArg (fun y : S2048x2048.Idx => (y 1).val) hx
  have l0 : (x (0 : Fin 2)).val < 512 := (x (0 : Fin 2)).isLt
  have l1 : (x (1 : Fin 2)).val < 1024 := (x (1 : Fin 2)).isLt
  omega

/-! ## What is added, at an entry -/

variable (m : (ℓ : Loc nD τ sig) → Buf (Elt Ideal) ℓ) (ρ : Dev nD → PrngReg)

/-- A device's two blocks, as matrices. -/
abbrev aMat (c : Dev nD) : FVec Ideal S2048x1024 .f32 := aStg m ρ c
abbrev bMat (c : Dev nD) : FVec Ideal S1024x2048 .f32 := bStg m ρ c

theorem rowPeer_half (c : Dev nD) : (rowPeer c).val / 2 = c.val / 2 := by revert c; decide
theorem colPeer_half (c : Dev nD) : 1024 * ((colPeer c).val / 2) = 1024 - 1024 * (c.val / 2) := by revert c; decide

/-- A chunk of the A a device got is those rows of its row peer's block. -/
theorem aChunk_apply (c : Dev nD) (i : Fin 4) (r : Fin 512) (k : Fin 1024) (p : Fin 2048) (hp : p.val = 512 * i.val + r.val) :
    (aChunk m ρ c i : FVec Ideal S512x1024 .bf16) (ix2 r k) = aMat m ρ (rowPeer c) (ix2 p k) := by
  have hx : ((chunkR i).emb (ix2 r k) : S2048x1024.Idx) = ix2 p k := by
    funext j
    apply Fin.ext
    match j with
    | ⟨0, _⟩ => show 512 * i.val + 1 * r.val = p.val; omega
    | ⟨1, _⟩ => show 0 + 1 * k.val = k.val; omega
  exact congrArg (aMat m ρ (rowPeer c)) hx

/-- The half of B a device sends is those columns of its block. -/
theorem bHalf_apply (c : Dev nD) (k t : Fin 1024) (q : Fin 2048) (hq : q.val = 1024 * (c.val / 2) + t.val) :
    (bHalf m ρ c : FVec Ideal S1024x1024 .bf16) (ix2 k t) = bMat m ρ c (ix2 k q) := by
  have hx : ((bHalfR c).emb (ix2 k t) : S1024x2048.Idx) = ix2 k q := by
    funext j
    apply Fin.ext
    match j with
    | ⟨0, _⟩ =>
      show k0_off1 c 0 + 1 * k.val = k.val
      rw [show k0_off1 c 0 = 0 from congrFun (k0_off1_eq c) 0]; omega
    | ⟨1, _⟩ =>
      show k0_off1 c 1 + 1 * t.val = q.val
      rw [show k0_off1 c 1 = 1024 * (c.val / 2) from congrFun (k0_off1_eq c) 1]; omega
  unfold bHalf k0_pay1
  rw [shapeCast_self, shapeCast_self]
  exact congrArg (bMat m ρ c) hx

theorem bDir_apply (c : Dev nD) (k t : Fin 1024) (q : Fin 2048) (hq : q.val = 1024 * (c.val / 2) + t.val) :
    (bDir m ρ c : FVec Ideal S1024x1024 .bf16) (ix2 k t) = bMat m ρ (rowPeer c) (ix2 k q) :=
  bHalf_apply m ρ (rowPeer c) k t q (by rw [rowPeer_half]; exact hq)

theorem bFwd_apply (c : Dev nD) (k t : Fin 1024) (q : Fin 2048) (hq : q.val = 1024 - 1024 * (c.val / 2) + t.val) :
    (bFwd m ρ c : FVec Ideal S1024x1024 .bf16) (ix2 k t) = bMat m ρ (rowPeer (colPeer c)) (ix2 k q) :=
  bDir_apply m ρ (colPeer c) k t q (by rw [colPeer_half]; exact hq)

/-- The product of a device's two blocks. -/
def blockSum (c : Dev nD) (p q : Fin 2048) : EReal := ∑ k : Fin 1024, aMat m ρ c (ix2 p k) * bMat m ρ c (ix2 k q)

/-- On the rows of chunk i the peer's product is added, whichever half the column is in: a column peer has the same block of B. -/
theorem addRow_hit (c : Dev nD) (hB : bStg m ρ (rowPeer (colPeer c)) = bStg m ρ (rowPeer c)) (i : Fin 4) (f : FVec Ideal S2048x2048 .f32) (p q : Fin 2048)
    (hp : 512 * i.val ≤ p.val ∧ p.val < 512 * i.val + 512) :
    (addRow m ρ c i f : FVec Ideal S2048x2048 .f32) (ix2 p q) = f (ix2 p q) + blockSum m ρ (rowPeer c) p q := by
  have hc : c.val / 2 = 0 ∨ c.val / 2 = 1 := by have := c.isLt; change c.val < 4 at this; omega
  have hr : p.val = 512 * i.val + (⟨p.val - 512 * i.val, by omega⟩ : Fin 512).val := by show p.val = 512 * i.val + (p.val - 512 * i.val); omega
  unfold addRow blockSum
  by_cases hd : 1024 * (c.val / 2) ≤ q.val ∧ q.val < 1024 * (c.val / 2) + 1024
  · have ht : q.val = 1024 * (c.val / 2) + (⟨q.val - 1024 * (c.val / 2), by omega⟩ : Fin 1024).val := by
      show q.val = 1024 * (c.val / 2) + (q.val - 1024 * (c.val / 2)); omega
    refine (addInto_miss _ (forward_inb c i) _ _ _ p q (Or.inr ?_)).trans ?_
    · show q.val < 1024 - 1024 * (c.val / 2) ∨ 1024 - 1024 * (c.val / 2) + 1024 ≤ q.val
      omega
    refine (addInto_hit _ (direct_inb c i) _ _ f p q _ _ hr ht).trans (congrArg (f (ix2 p q) + ·) (Finset.sum_congr rfl fun k _ => ?_))
    exact congr (congrArg HMul.hMul (aChunk_apply m ρ c i _ k p hr)) (bDir_apply m ρ c k _ q ht)
  · have ht : q.val = 1024 - 1024 * (c.val / 2) + (⟨q.val - (1024 - 1024 * (c.val / 2)), by have := q.isLt; omega⟩ : Fin 1024).val := by
      show q.val = 1024 - 1024 * (c.val / 2) + (q.val - (1024 - 1024 * (c.val / 2))); have := q.isLt; omega
    refine (addInto_hit _ (forward_inb c i) _ _ _ p q _ _ hr ht).trans ?_
    refine congr (congrArg HAdd.hAdd (addInto_miss _ (direct_inb c i) _ _ f p q (Or.inr ?_))) (Finset.sum_congr rfl fun k _ => ?_)
    · show q.val < 1024 * (c.val / 2) ∨ 1024 * (c.val / 2) + 1024 ≤ q.val
      omega
    refine congr (congrArg HMul.hMul (aChunk_apply m ρ c i _ k p hr)) ((bFwd_apply m ρ c k _ q ht).trans ?_)
    exact congrFun hB (ix2 k q)

/-- On the other rows nothing changes. -/
theorem addRow_miss (c : Dev nD) (i : Fin 4) (f : FVec Ideal S2048x2048 .f32) (p q : Fin 2048) (hp : p.val < 512 * i.val ∨ 512 * i.val + 512 ≤ p.val) :
    (addRow m ρ c i f : FVec Ideal S2048x2048 .f32) (ix2 p q) = f (ix2 p q) := by
  unfold addRow
  exact (addInto_miss _ (forward_inb c i) _ _ _ p q (Or.inl hp)).trans (addInto_miss _ (direct_inb c i) _ _ f p q (Or.inl hp))

/-- The result block at an entry: the two products added. -/
theorem outAt_apply (c : Dev nD) (hB : bStg m ρ (rowPeer (colPeer c)) = bStg m ρ (rowPeer c)) (p q : Fin 2048) :
    (outAt m ρ c : FVec Ideal S2048x2048 .f32) (ix2 p q) = blockSum m ρ c p q + blockSum m ρ (rowPeer c) p q := by
  have row (i : Fin 4) (f : FVec Ideal S2048x2048 .f32) :
      (addRow m ρ c i f : FVec Ideal S2048x2048 .f32) (ix2 p q)
        = if p.val / 512 = i.val then f (ix2 p q) + blockSum m ρ (rowPeer c) p q else f (ix2 p q) := by
    split
    · exact addRow_hit m ρ c hB i f p q (by omega)
    · exact addRow_miss m ρ c i f p q (by omega)
  have own : (k0_pay6 (F := Ideal) (aStg m ρ c) (bStg m ρ c)) (ix2 p q) = blockSum m ρ c p q := own_product (aMat m ρ c) (bMat m ρ c) p q
  have hlt := p.isLt
  unfold outAt
  rw [row, row, row, row, own]
  rcases (by omega : p.val / 512 = 0 ∨ p.val / 512 = 1 ∨ p.val / 512 = 2 ∨ p.val / 512 = 3) with h | h | h | h <;> simp [h]

/-! ## The arrays -/

/-- What is staged of an argument is the argument. -/
theorem aStg_eq (c : Dev nD) : aStg m ρ c = m ((c : Thread nD τ).loc main_arg0) := by
  unfold aStg
  exact Memref.read_access_unit_zero (Elt Ideal) main_arg0 (funext fun a => by fin_cases a <;> decide) (fun a => by fin_cases a <;> decide) _
theorem bStg_eq (c : Dev nD) : bStg m ρ c = m ((c : Thread nD τ).loc main_arg1) := by
  unfold bStg
  exact Memref.read_access_unit_zero (Elt Ideal) main_arg1 (funext fun a => by fin_cases a <;> decide) (fun a => by fin_cases a <;> decide) _

/-- The result array ends at the block computed. -/
theorem finalA_o (c : Dev nD) : finalA m ρ c (2 : Fin 3) = outAt m ρ c := by
  have h : (win0_2.blk (0 : Fin 1)).view.read (Elt Ideal) (finalA m ρ c (2 : Fin 3)) = outAt m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from flush0_2 _, if_pos rfl]
    exact (View.read_write_univ _ _).trans (congrArg ((cfg0.win (2 : Fin 3)).cut (cfg0.grid.coords (0 : Fin 1))) (after_o m ρ c (0 : Fin 1)))
  refine Eq.trans ?_ h
  exact (Memref.read_access_unit_zero (Elt Ideal) main_v1 (funext fun a => by fin_cases a <;> decide) (fun a => by fin_cases a <;> decide) _).symm

/-! ## Against the product of the whole arrays -/

theorem mesh_x (c : Dev nD) : Layout.meshLin [2, 2] c.val [0] = c.val / 2 := by revert c; decide
theorem mesh_y (c : Dev nD) : Layout.meshLin [2, 2] c.val [1] = c.val % 2 := by revert c; decide

/-- Where each block lies: A's block in block row x and block column y, B's in block row y, the result's in block row x. -/
theorem place_a (c : Dev nD) (h : Layout.TilesN ⟨2, ![2048, 1024]⟩ ⟨2, ![4096, 2048]⟩ _) (p : Fin 2048) (k : Fin 1024) (p' : Fin 4096) (k' : Fin 2048)
    (hp : p'.val = 2048 * (c.val / 2) + p.val) (hk : k'.val = 1024 * (c.val % 2) + k.val) :
    h.idx (Layout.meshBlock [2, 2] ![[0], [1]] c) (ix2 p k) = ix2 p' k' := by
  funext b
  apply Fin.ext
  match b with
  | ⟨0, _⟩ => show Layout.meshLin [2, 2] c.val [0] * 2048 + p.val = p'.val; rw [mesh_x]; omega
  | ⟨1, _⟩ => show Layout.meshLin [2, 2] c.val [1] * 1024 + k.val = k'.val; rw [mesh_y]; omega

theorem place_b (c : Dev nD) (h : Layout.TilesN ⟨2, ![1024, 2048]⟩ ⟨2, ![2048, 2048]⟩ _) (k : Fin 1024) (q : Fin 2048) (k' : Fin 2048)
    (hk : k'.val = 1024 * (c.val % 2) + k.val) :
    h.idx (Layout.meshBlock [2, 2] ![[1], []] c) (ix2 k q) = ix2 k' q := by
  funext b
  apply Fin.ext
  match b with
  | ⟨0, _⟩ => show Layout.meshLin [2, 2] c.val [1] * 1024 + k.val = k'.val; rw [mesh_y]; omega
  | ⟨1, _⟩ => show 0 * 2048 + q.val = q.val; omega

theorem place_o (c : Dev nD) (h : Layout.TilesN ⟨2, ![2048, 2048]⟩ ⟨2, ![4096, 2048]⟩ _) (p q : Fin 2048) (p' : Fin 4096)
    (hp : p'.val = 2048 * (c.val / 2) + p.val) :
    h.idx (Layout.meshBlock [2, 2] ![[0], []] c) (ix2 p q) = ix2 p' q := by
  funext b
  apply Fin.ext
  match b with
  | ⟨0, _⟩ => show Layout.meshLin [2, 2] c.val [0] * 2048 + p.val = p'.val; rw [mesh_x]; omega
  | ⟨1, _⟩ => show 0 * 2048 + q.val = q.val; omega

theorem rowPeer_other (c : Dev nD) : (rowPeer c).val % 2 = 1 - c.val % 2 := by revert c; decide
theorem colPeer_same (c : Dev nD) : (colPeer c).val % 2 = c.val % 2 := by revert c; decide

/-- If the devices' arguments are the blocks of two whole arrays, each device's result is its block of rows of the product. -/
theorem value (A : FVec Ideal ⟨2, ![4096, 2048]⟩ .f32) (B : FVec Ideal ⟨2, ![2048, 2048]⟩ .f32)
    (hA : ∀ c : Dev nD, m ((c : Thread nD τ).loc main_arg0) = Layout.blockN ⟨2, ![2048, 1024]⟩ ⟨2, ![4096, 2048]⟩ (Layout.meshBlock [2, 2] ![[0], [1]] c) A)
    (hB : ∀ c : Dev nD, m ((c : Thread nD τ).loc main_arg1) = Layout.blockN ⟨2, ![1024, 2048]⟩ ⟨2, ![2048, 2048]⟩ (Layout.meshBlock [2, 2] ![[1], []] c) B)
    (c : Dev nD) :
    outAt m ρ c = Layout.blockN ⟨2, ![2048, 2048]⟩ ⟨2, ![4096, 2048]⟩ (Layout.meshBlock [2, 2] ![[0], []] c)
      (Host.dotGeneral (F := Ideal) (φ₁ := .f32) (φ₂ := .f32) (DotDims.plain 4096 2048 2048) none A B) := by
  have ea (c : Dev nD) (p : Fin 2048) (k : Fin 1024) (p' : Fin 4096) (k' : Fin 2048)
      (hp : p'.val = 2048 * (c.val / 2) + p.val) (hk : k'.val = 1024 * (c.val % 2) + k.val) : aMat m ρ c (ix2 p k) = A (ix2 p' k') := by
    rw [show aMat m ρ c = _ from (aStg_eq m ρ c).trans (hA c)]
    exact congrArg A (place_a c _ p k p' k' hp hk)
  have eb (c : Dev nD) (k : Fin 1024) (q : Fin 2048) (k' : Fin 2048) (hk : k'.val = 1024 * (c.val % 2) + k.val) :
      bMat m ρ c (ix2 k q) = B (ix2 k' q) := by
    rw [show bMat m ρ c = _ from (bStg_eq m ρ c).trans (hB c)]
    exact congrArg B (place_b c _ k q k' hk)
  have same : bStg m ρ (rowPeer (colPeer c)) = bStg m ρ (rowPeer c) := by
    funext y
    obtain ⟨k, q, rfl⟩ : ∃ (k : Fin 1024) (q : Fin 2048), y = ix2 k q := ⟨y 0, y 1, eq_ix2 y⟩
    have l : 1024 * ((rowPeer c).val % 2) + k.val < 2048 := by omega
    exact (eb (rowPeer (colPeer c)) k q ⟨_, l⟩ (by show 1024 * ((rowPeer c).val % 2) + k.val = _; rw [rowPeer_other, rowPeer_other, colPeer_same])).trans (eb (rowPeer c) k q ⟨_, l⟩ rfl).symm
  funext y
  obtain ⟨p, q, rfl⟩ : ∃ p q : Fin 2048, y = ix2 p q := ⟨y 0, y 1, eq_ix2 y⟩
  have hc : c.val / 2 ≤ 1 := by have := c.isLt; change c.val < 4 at this; omega
  have lp : 2048 * (c.val / 2) + p.val < 4096 := by have := p.isLt; omega
  let g : Fin 2048 → EReal := fun k => A (ix2 ⟨_, lp⟩ k) * B (ix2 k q)
  have half (d : Dev nD) (hd : d.val / 2 = c.val / 2) (n : ℕ) (hn : d.val % 2 = n) (e : Fin 1024 → Fin 2048) (he : ∀ k, (e k).val = 1024 * n + k.val) :
      blockSum m ρ d p q = ∑ k : Fin 1024, g (e k) := by
    subst hn
    exact Finset.sum_congr rfl fun k _ => congr (congrArg HMul.hMul (ea d p k ⟨_, lp⟩ (e k) (by rw [hd]) (he k))) (eb d k q (e k) (he k))
  have split : ∑ k : Fin 2048, g k = (∑ k : Fin 1024, g (Fin.castAdd 1024 k)) + ∑ k : Fin 1024, g (Fin.natAdd 1024 k) := Fin.sum_univ_add (a := 1024) (b := 1024) g
  refine (outAt_apply m ρ c same p q).trans (Eq.trans ?_ (congrArg (Host.dotGeneral (F := Ideal) (φ₁ := .f32) (φ₂ := .f32) (DotDims.plain 4096 2048 2048) none A B)
    (place_o c _ p q ⟨_, lp⟩ rfl)).symm)
  refine Eq.trans ?_ (StackMember.dotGeneral_plain_apply none A B ⟨_, lp⟩ q).symm
  refine Eq.trans ?_ split.symm
  have lo (k : Fin 1024) : (Fin.castAdd 1024 k).val = 1024 * 0 + k.val := by show k.val = _; omega
  have hi (k : Fin 1024) : (Fin.natAdd 1024 k).val = 1024 * 1 + k.val := by show 1024 + k.val = _; omega
  have hr := rowPeer_half c
  have ho := rowPeer_other c
  rcases (by omega : c.val % 2 = 0 ∨ c.val % 2 = 1) with h | h
  · rw [half c rfl 0 h _ lo, half (rowPeer c) hr 1 (by omega) _ hi]
  · rw [half c rfl 1 h _ hi, half (rowPeer c) hr 0 (by omega) _ lo, add_comm]

end Cert.MatmulProof

end
-- ==== Proof.SameText.lean ====
/- The kernel as traced and the kernel read over the extended reals are one text printed under two names: no operation was
   rewritten. So the two body tables and the two main programs are equal, and what is proved of one is proved of the other. -/
module

public import proofs.«01_k».proof.Proof.Gen.Kernel
public import proofs.«01_k».proof.Proof.Gen.KernelIdeal

@[expose] public section

noncomputable section

namespace Cert.MatmulProof

open Idealize.ShloMosaic Idealize.SL.Sem

variable {F : FTy → Type} [FloatOps F]

attribute [local instance] Cert.Kernel.Gen.facts Cert.KernelIdeal.Gen.facts

/-- The kernel's body, compared line by line. -/
theorem body_same : Cert.Kernel.cc0_body (F := F) = Cert.KernelIdeal.cc0_body (F := F) := rfl

/-- Each has one label that a TensorCore runs, and it runs the body; the other cores have none. -/
theorem table_same : Cert.Kernel.defs₀ (F := F) = Cert.KernelIdeal.defs₀ (F := F) := by
  funext p ℓ a
  match p, ℓ, a with
  | .tc, ⟨0, _⟩, (_, _) => rfl
  | .scScalar _, _, _ => rfl
  | .scVector _ _, _, _ => rfl

/-- The same with the staging of the operands around the body. -/
theorem defs_same : Cert.Kernel.defs (F := F) = Cert.KernelIdeal.defs (F := F) :=
  congrArg (Pipeline.defs Cert.KernelIdeal.pcfgs) table_same

/-- A run's postcondition carries over between equal body tables. -/
theorem run_of_defs {nD : Nat} {τ : Topo} {sig : RefSig} {Val : EltTy → Type} {Λ : Labels} {D D' : Defs nD τ sig Val Λ}
    (e : D = D') (P) (s) (Q) (h : θ_run D' P s Q) : θ_run D P s Q := e ▸ h

end Cert.MatmulProof

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.SameText
public import Idealize.ShloMosaic.Adequacy
public import Idealize.ShloMosaic.Init

@[expose] public section

noncomputable section

namespace Cert.Proof

open Idealize.ShloMosaic Idealize.ShloMosaic.TcCoe Idealize.SL.Sem
open Cert.MatmulProof

/-- At any float values the program leaves its arguments alone and its counters at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono (fun _ h => ⟨fun c => ⟨(h.1 c (0 : Fin 3)).trans (finalA_a m ρ c), (h.1 c (1 : Fin 3)).trans (finalA_b m ρ c)⟩, h.2⟩)
    (run_main m ρ)

/-- So it does over the extended reals. -/
theorem frame_kernelIdeal : Cert.quiescent_KernelIdeal := fun m ρ _ => frame (F := Ideal) m ρ

/-- Over machine floats too: the two programs are one text. -/
theorem frame_kernel : Cert.quiescent_Kernel (hKernel := Cert.Kernel.Gen.facts) := fun m ρ _ =>
  run_of_defs (D := Cert.Kernel.defs (F := Bits)) defs_same _ _ _ (frame (F := Bits) m ρ)

/-- The reference, one product on one device, leaves its arguments alone. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Run from memories where each device holds its blocks of the reference's arguments, the kernel leaves each device its
    block of the reference's result. -/
theorem algebraic : Cert.algebraic_KernelIdeal_ReferenceIdeal := fun m g m' g' _ hag =>
  ⟨Host.dotGeneral (F := Ideal) (φ₁ := .f32) (φ₂ := .f32) (DotDims.plain 4096 2048 2048) none
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (finalA_o m g c)).trans (value m g _ _ (fun c => (hag c).1) (fun c => (hag c).2) c),
        (h.1 c (0 : Fin 3)).trans (finalA_a m g c), (h.1 c (1 : Fin 3)).trans (finalA_b m g c)⟩)
      (run_main (F := Ideal) m g),
    (θ_run Cert.ReferenceIdeal.defs _ _).mono (fun _ h => h 0) (Cert.ReferenceIdeal.Value.run (F := Ideal) m' g')⟩

/-- The five claims. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
